-- ==== Defs.lean ====
def Pre_Kernel (m : (ℓ : Loc Cert.Kernel.nD Cert.Kernel.τ Cert.Kernel.sig) → Buf (Elt Bits) ℓ) : Prop :=
  True

def Pre_Kernel_no_tie [hPre_no_tie : Cert.Pre_no_tie.Facts] (m : (ℓ : Loc Cert.Kernel.nD Cert.Kernel.τ Cert.Kernel.sig) → Buf (Elt Bits) ℓ) : Prop :=
  ∀ c : Dev Cert.Kernel.nD,
    (Cert.Pre_no_tie.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_no_tie [hKernel : Cert.Kernel.Facts] [hPre_no_tie : Cert.Pre_no_tie.Facts] : Prop :=
  ∀ (m : (ℓ : Loc Cert.Kernel.nD Cert.Kernel.τ Cert.Kernel.sig) → Buf (Elt Bits) ℓ) (g : Dev Cert.Kernel.nD → PrngReg), Pre_Kernel_no_tie m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v2_2)) (v4 : (c : Dev Cert.KernelIdeal.nD) → Buf (Elt Ideal) ((c.tc : Thread Cert.KernelIdeal.nD Cert.KernelIdeal.τ).loc Cert.KernelIdeal.main_v3)) (v5 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v2_2) = v3 c
          ∧ r.2.mem ((c.tc : Thread Cert.KernelIdeal.nD Cert.KernelIdeal.τ).loc Cert.KernelIdeal.main_v3) = v4 c
          ∧ r.2.mem ((c.tc : Thread Cert.KernelIdeal.nD Cert.KernelIdeal.τ).loc Cert.KernelIdeal.main_v2_0) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_v17) = v3 c
          ∧ r.2.mem ((c.tc : Thread Cert.ReferenceIdeal.nD Cert.ReferenceIdeal.τ).loc Cert.ReferenceIdeal.main_v16) = v4 c
          ∧ r.2.mem ((c.tc : Thread Cert.ReferenceIdeal.nD Cert.ReferenceIdeal.τ).loc Cert.ReferenceIdeal.main_v15) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_Kernel_pre_no_tie (hKernel := hKernel) (hPre_no_tie := hPre_no_tie)
    ∧ quiescent_KernelIdeal (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal (hKernelIdeal := hKernelIdeal) (hReferenceIdeal := hReferenceIdeal) (hPre_no_tie := hPre_no_tie)
-- ==== Pre_no_tie.lean ====
abbrev S16x64x32x32 : Shape := ⟨4, ![16, 64, 32, 32]⟩
abbrev S1024x64 : Shape := ⟨2, ![1024, 64]⟩
abbrev S16x32x32x64 : Shape := ⟨4, ![16, 32, 32, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S64x1024 : Shape := ⟨2, ![64, 1024]⟩

class Facts : Prop where
  transposes_S16x64x32x32_S16x32x32x64_0_2_3_1 : S16x64x32x32.Transposes [0, 2, 3, 1] S16x32x32x64
  shapeCasts_S16x32x32x64_S16384x64 : S16x32x32x64.ShapeCasts S16384x64
  reducesTo_S16384x64_S16384_d1 : S16384x64.ReducesTo [1] S16384
  h_S_ : 0 < S_.numel
  bcast_S16384_S16384x1_0 : S16384.BroadcastsInDim S16384x1 (![0] : Fin 1 → Fin S16384x1.rank)
  reducesTo_S1024x64_S1024_d1 : S1024x64.ReducesTo [1] S1024
  bcast_S1024_S1x1024_1 : S1024.BroadcastsInDim S1x1024 (![1] : Fin 1 → Fin S1x1024.rank)
  bcast_S16384x1_S16384x1024_0_1 : S16384x1.BroadcastsInDim S16384x1024 (![0, 1] : Fin 2 → Fin S16384x1024.rank)
  bcast_S1x1024_S16384x1024_0_1 : S1x1024.BroadcastsInDim S16384x1024 (![0, 1] : Fin 2 → Fin S16384x1024.rank)
  transposes_S1024x64_S64x1024_1_0 : S1024x64.Transposes [1, 0] S64x1024
  bcast_S_S16384x1024 : S_.BroadcastsInDim S16384x1024 (![] : Fin 0 → Fin S16384x1024.rank)
  reducesTo_S16384x1024_S16384_d1 : S16384x1024.ReducesTo [1] S16384
  natLt_1_32 : 1 < 32
  bcast_S_S16384 : S_.BroadcastsInDim S16384 (![] : Fin 0 → Fin S16384.rank)
  bcast_S_S16x64x32x32 : S_.BroadcastsInDim S16x64x32x32 (![] : Fin 0 → Fin S16x64x32x32.rank)
  reducesTo_S16x64x32x32_S_d0_1_2_3 : S16x64x32x32.ReducesTo [0, 1, 2, 3] S_
  reducesTo_S16384_S_d0 : S16384.ReducesTo [0] S_
  dot_S16384x64_S64x1024_S16384x1024_1_0_0_1_n_n_wf : DotDims.WF S16384x64 S64x1024 S16384x1024 [1] [0] [0] [1] [] []

variable [Facts]

def dot_S16384x64_S64x1024_S16384x1024_1_0_0_1_n_n : DotDims S16384x64 S64x1024 S16384x1024 where
  lhsContracting := [1]
  rhsContracting := [0]
  lhsNonContracting := [0]
  rhsNonContracting := [1]
  lhsBatch := []
  rhsBatch := []
  wf := dot_S16384x64_S64x1024_S16384x1024_1_0_0_1_n_n_wf
def fn_part1 {F : FTy → Type} [FloatOps F] (main_arg0 : FVec F S16x64x32x32 .f32) (main_v19 : IVec S16384x1024 1) : IVec S_ 1 :=
  let main_v20 : IVec S16384x1024 32 := (extui 32 · natLt_1_32) main_v19
  let main_c : IVec S_ 32 := constantI S_ 32 0#32
  let main_v21 : IVec S16384 32 := (fun x v => Host.reduce IntOp.addi x v reducesTo_S16384x1024_S16384_d1 h_S_) main_v20 main_c
  let main_c_3 : IVec S_ 32 := constantI S_ 32 1#32
  let main_v22 : IVec S16384 32 := broadcastInDim S16384 ![] bcast_S_S16384 main_c_3
  let main_v23 : IVec S16384 1 := cmpi .eq main_v21 main_v22
  let main_v24 : FVec F S16x64x32x32 .f32 := Host.absf main_arg0
  let main_cst_4 : FVec F S_ .f32 := constant S_ .f32 0x7F800000#32
  let main_v25 : FVec F S16x64x32x32 .f32 := broadcastInDim S16x64x32x32 ![] bcast_S_S16x64x32x32 main_cst_4
  let main_v26 : IVec S16x64x32x32 1 := cmpf .olt main_v24 main_v25
  let main_c_5 : IVec S_ 1 := constantI S_ 1 1#1
  let main_v27 : IVec S_ 1 := (fun x v => Host.reduce IntOp.andi x v reducesTo_S16x64x32x32_S_d0_1_2_3 h_S_) main_v26 main_c_5
  let main_c_6 : IVec S_ 1 := constantI S_ 1 1#1
  let main_v28 : IVec S_ 1 := (fun x v => Host.reduce IntOp.andi x v reducesTo_S16384_S_d0 h_S_) main_v23 main_c_6
  let main_v29 : IVec S_ 1 := andi main_v27 main_v28
  main_v29

def fn {F : FTy → Type} [FloatOps F] (main_arg0 : FVec F S16x64x32x32 .f32) (main_arg1 : FVec F S1024x64 .f32) : IVec S_ 1 :=
  let main_v0 : FVec F S16x32x32x64 .f32 := (transpose S16x32x32x64 [0, 2, 3, 1] · transposes_S16x64x32x32_S16x32x32x64_0_2_3_1) main_arg0
  let main_v1 : FVec F S16384x64 .f32 := shapeCast S16384x64 main_v0 shapeCasts_S16x32x32x64_S16384x64
  let main_v2 : FVec F S16384x64 .f32 := mulf main_v1 main_v1
  let main_cst : FVec F S_ .f32 := constant S_ .f32 0x00000000#32
  let main_v3 : FVec F S16384 .f32 := (fun x v => Host.reduceAdd x v reducesTo_S16384x64_S16384_d1 h_S_) main_v2 main_cst
  let main_v4 : FVec F S16384x1 .f32 := broadcastInDim S16384x1 ![0] bcast_S16384_S16384x1_0 main_v3
  let main_v5 : FVec F S1024x64 .f32 := mulf main_arg1 main_arg1
  let main_cst_0 : FVec F S_ .f32 := constant S_ .f32 0x00000000#32
  let main_v6 : FVec F S1024 .f32 := (fun x v => Host.reduceAdd x v reducesTo_S1024x64_S1024_d1 h_S_) main_v5 main_cst_0
  let main_v7 : FVec F S1x1024 .f32 := broadcastInDim S1x1024 ![1] bcast_S1024_S1x1024_1 main_v6
  let main_v8 : FVec F S16384x1024 .f32 := broadcastInDim S16384x1024 ![0, 1] bcast_S16384x1_S16384x1024_0_1 main_v4
  let main_v9 : FVec F S16384x1024 .f32 := broadcastInDim S16384x1024 ![0, 1] bcast_S1x1024_S16384x1024_0_1 main_v7
  let main_v10 : FVec F S16384x1024 .f32 := addf main_v8 main_v9
  let main_v11 : FVec F S64x1024 .f32 := (transpose S64x1024 [1, 0] · transposes_S1024x64_S64x1024_1_0) main_arg1
  let main_v12 : FVec F S16384x1024 .f32 := (fun l r => Host.dotGeneral dot_S16384x64_S64x1024_S16384x1024_1_0_0_1_n_n none l r) main_v1 main_v11
  let main_cst_1 : FVec F S_ .f32 := constant S_ .f32 0x40000000#32
  let main_v13 : FVec F S16384x1024 .f32 := broadcastInDim S16384x1024 ![] bcast_S_S16384x1024 main_cst_1
  let main_v14 : FVec F S16384x1024 .f32 := mulf main_v13 main_v12
  let main_v15 : FVec F S16384x1024 .f32 := subf main_v10 main_v14
  let main_cst_2 : FVec F S_ .f32 := constant S_ .f32 0x7F800000#32
  let main_v16 : FVec F S16384 .f32 := (fun x v => Host.reduce FloatOps.minimumf x v reducesTo_S16384x1024_S16384_d1 h_S_) main_v15 main_cst_2
  let main_v17 : FVec F S16384x1 .f32 := broadcastInDim S16384x1 ![0] bcast_S16384_S16384x1_0 main_v16
  let main_v18 : FVec F S16384x1024 .f32 := broadcastInDim S16384x1024 ![0, 1] bcast_S16384x1_S16384x1024_0_1 main_v17
  let main_v19 : IVec S16384x1024 1 := cmpf .oeq main_v15 main_v18
  fn_part1 (F := F) main_arg0 main_v19
-- ==== Kernel.lean ====
abbrev S16x64x32x32 : Shape := ⟨4, ![16, 64, 32, 32]⟩
abbrev S1024x64 : Shape := ⟨2, ![1024, 64]⟩
abbrev S16x32x32x64 : Shape := ⟨4, ![16, 32, 32, 64]⟩
abbrev S16384x64 : Shape := ⟨2, ![16384, 64]⟩
abbrev S16384x1024 : Shape := ⟨2, ![16384, 1024]⟩
abbrev S32x1x512 : Shape := ⟨3, ![32, 1, 512]⟩
abbrev S1x1 : Shape := ⟨2, ![1, 1]⟩
abbrev S512x64 : Shape := ⟨2, ![512, 64]⟩
abbrev S512x1024 : Shape := ⟨2, ![512, 1024]⟩
abbrev S1x1x512 : Shape := ⟨3, ![1, 1, 512]⟩
abbrev S1x1024 : Shape := ⟨2, ![1, 1024]⟩
abbrev S1024 : Shape := ⟨1, ![1024]⟩
abbrev S512 : Shape := ⟨1, ![512]⟩
abbrev S512x1 : Shape := ⟨2, ![512, 1]⟩
abbrev S1x512x64 : Shape := ⟨3, ![1, 512, 64]⟩
abbrev S1 : Shape := ⟨1, ![1]⟩
abbrev S1x1x1 : Shape := ⟨3, ![1, 1, 1]⟩
abbrev S1x512 : Shape := ⟨2, ![1, 512]⟩
abbrev S1x1x1024 : Shape := ⟨3, ![1, 1, 1024]⟩
abbrev S16384 : Shape := ⟨1, ![16384]⟩
abbrev S_ : Shape := ⟨0, ![]⟩

abbrev nBuf : Space → Nat
  | .hbm => 15
  | .vmem => 17
  | .smem => 0
  | _ => 0

abbrev bufTy : (tb : Table) → Fin (tcTables nBuf tb) → BufTy
  | .hbm, ⟨0, _⟩ => ⟨S16x64x32x32, .f32⟩
  | .hbm, ⟨1, _⟩ => ⟨S1024x64, .f32⟩
  | .hbm, ⟨2, _⟩ => ⟨S16x32x32x64, .f32⟩
  | .hbm, ⟨3, _⟩ => ⟨S16384x64, .f32⟩
  | .hbm, ⟨4, _⟩ => ⟨S16384x1024, .f32⟩
  | .hbm, ⟨5, _⟩ => ⟨S32x1x512, .i32⟩
  | .hbm, ⟨6, _⟩ => ⟨S16384x1024, .f32⟩
  | .hbm, ⟨7, _⟩ => ⟨S16384x64, .f32⟩
  | .hbm, ⟨8, _⟩ => ⟨S1x1, .f32⟩
  | .hbm, ⟨9, _⟩ => ⟨S1x1, .f32⟩
  | .hbm, ⟨10, _⟩ => ⟨S16384, .i32⟩
  | .hbm, ⟨11, _⟩ => ⟨S16x32x32x64, .f32⟩
  | .hbm, ⟨12, _⟩ => ⟨S16x64x32x32, .f32⟩
  | .hbm, ⟨13, _⟩ => ⟨S_, .f32⟩
  | .hbm, ⟨14, _⟩ => ⟨S_, .f32⟩
  | .local _ .vmem, ⟨0, _⟩ => ⟨S512x64, .f32⟩
  | .local _ .vmem, ⟨1, _⟩ => ⟨S512x64, .f32⟩
  | .local _ .vmem, ⟨2, _⟩ => ⟨S1024x64, .f32⟩
  | .local _ .vmem, ⟨3, _⟩ => ⟨S512x1024, .f32⟩
  | .local _ .vmem, ⟨4, _⟩ => ⟨S512x1024, .f32⟩
  | .local _ .vmem, ⟨5, _⟩ => ⟨S1x1x512, .i32⟩
  | .local _ .vmem, ⟨6, _⟩ => ⟨S1x1x512, .i32⟩
  | .local _ .vmem, ⟨7, _⟩ => ⟨S512x1024, .f32⟩
  | .local _ .vmem, ⟨8, _⟩ => ⟨S512x1024, .f32⟩
  | .local _ .vmem, ⟨9, _⟩ => ⟨S512x64, .f32⟩
  | .local _ .vmem, ⟨10, _⟩ => ⟨S512x64, .f32⟩
  | .local _ .vmem, ⟨11, _⟩ => ⟨S1x1, .f32⟩
  | .local _ .vmem, ⟨12, _⟩ => ⟨S1x1, .f32⟩
  | .local _ .vmem, ⟨13, _⟩ => ⟨S1x1, .f32⟩
  | .local _ .vmem, ⟨14, _⟩ => ⟨S1x1024, .f32⟩
  | .local _ .vmem, ⟨15, _⟩ => ⟨S1x1024, .f32⟩
  | .local _ .vmem, ⟨16, _⟩ => ⟨S1024x64, .f32⟩
  | _, _ => ⟨S16x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev main_v2_5 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def k0_cond4 (i : grid0.Coords) : BitVec 1 :=
  let arg0 : BitVec 32 := BitVec.ofNat 32 (i 0).val
  let c31_i32 : BitVec 32 := 31#32
  let v44 : BitVec 1 := Scalar.cmpi .eq arg0 c31_i32
  let v45 : BitVec 32 := Scalar.extui v44
  let c0_i32_26 : BitVec 32 := 0#32
  let v46 : BitVec 1 := Scalar.cmpi .ne v45 c0_i32_26
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S16x64x32x32 : Shape := ⟨4, ![16, 64, 32, 32]⟩
abbrev S1024x64 : Shape := ⟨2, ![1024, 64]⟩
abbrev S16x32x32x64 : Shape := ⟨4, ![16, 32, 32, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S64x1024 : Shape := ⟨2, ![64, 1024]⟩
abbrev S1 : Shape := ⟨1, ![1]⟩
abbrev S1x1 : Shape := ⟨2, ![1, 1]⟩

abbrev nBuf : Space → Nat
  | .hbm => 81
  | .vmem => 0
  | .smem => 0
  | _ => 0

abbrev bufTy : (tb : Table) → Fin (tcTables nBuf tb) → BufTy
  | .hbm, ⟨0, _⟩ => ⟨S16x64x32x32, .f32⟩
  | .hbm, ⟨1, _⟩ => ⟨S1024x64, .f32⟩
  | .hbm, ⟨2, _⟩ => ⟨S16x32x32x64, .f32⟩
  | .hbm, ⟨3, _⟩ => ⟨S16384x64, .f32⟩
  | .hbm, ⟨4, _⟩ => ⟨S16384x64, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S1024x64, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S64x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .i32⟩
  | .hbm, ⟨22, _⟩ => ⟨S_, .f32⟩
  | .hbm, ⟨23, _⟩ => ⟨S_, .i32⟩
  | .hbm, ⟨24, _⟩ => ⟨S16384, .f32⟩
  | .hbm, ⟨25, _⟩ => ⟨S16384, .i32⟩
  | .hbm, ⟨26, _⟩ => ⟨S16384x1, .i32⟩
  | .hbm, ⟨27, _⟩ => ⟨S1x1024, .i32⟩
  | .hbm, ⟨28, _⟩ => ⟨S16384x1024, .i32⟩
  | .hbm, ⟨29, _⟩ => ⟨S16384x1024, .i32⟩
  | .hbm, ⟨30, _⟩ => ⟨S16384x1024, .i1⟩
  | .hbm, ⟨31, _⟩ => ⟨S16384x1024, .f32⟩
  | .hbm, ⟨32, _⟩ => ⟨S_, .i32⟩
  | .hbm, ⟨33, _⟩ => ⟨S16384, .i32⟩
  | .hbm, ⟨34, _⟩ => ⟨S16384, .i1⟩
  | .hbm, ⟨35, _⟩ => ⟨S_, .i32⟩
  | .hbm, ⟨36, _⟩ => ⟨S16384, .i32⟩
  | .hbm, ⟨37, _⟩ => ⟨S16384, .i32⟩
  | .hbm, ⟨38, _⟩ => ⟨S16384, .i32⟩
  | .hbm, ⟨39, _⟩ => ⟨S16384x1, .i32⟩
  | .hbm, ⟨40, _⟩ => ⟨S1, .i32⟩
  | .hbm, ⟨41, _⟩ => ⟨S_, .i32⟩
  | .hbm, ⟨42, _⟩ => ⟨S16384x1, .i32⟩
  | .hbm, ⟨43, _⟩ => ⟨S16384x1, .i1⟩
  | .hbm, ⟨44, _⟩ => ⟨S1x1, .i32⟩
  | .hbm, ⟨45, _⟩ => ⟨S16384x1, .i32⟩
  | .hbm, ⟨46, _⟩ => ⟨S16384x1, .i1⟩
  | .hbm, ⟨47, _⟩ => ⟨S16384x1, .i1⟩
  | .hbm, ⟨48, _⟩ => ⟨S_, .i1⟩
  | .hbm, ⟨49, _⟩ => ⟨S16384, .i1⟩
  | .hbm, ⟨50, _⟩ => ⟨S16384x64, .f32⟩
  | .hbm, ⟨51, _⟩ => ⟨S16384x64, .i1⟩
  | .hbm, ⟨52, _⟩ => ⟨S_, .f32⟩
  | .hbm, ⟨53, _⟩ => ⟨S16384x64, .f32⟩
  | .hbm, ⟨54, _⟩ => ⟨S16384x64, .f32⟩
  | .hbm, ⟨55, _⟩ => ⟨S16x32x32x64, .f32⟩
  | .hbm, ⟨56, _⟩ => ⟨S16x64x32x32, .f32⟩
  | .hbm, ⟨57, _⟩ => ⟨S16x64x32x32, .f32⟩
  | .hbm, ⟨58, _⟩ => ⟨S16x64x32x32, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S1024, .f32⟩
  | .hbm, ⟨67, _⟩ => ⟨S_, .f32⟩
  | .hbm, ⟨68, _⟩ => ⟨S1024, .f32⟩
  | .hbm, ⟨69, _⟩ => ⟨S1024, .f32⟩
  | .hbm, ⟨70, _⟩ => ⟨S_, .f32⟩
  | .hbm, ⟨71, _⟩ => ⟨S1024, .f32⟩
  | .hbm, ⟨72, _⟩ => ⟨S1024, .f32⟩
  | .hbm, ⟨73, _⟩ => ⟨S1024, .f32⟩
  | .hbm, ⟨74, _⟩ => ⟨S1024, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S16x64x32x32, .f32⟩
  | .hbm, ⟨80, _⟩ => ⟨S16x64x32x32, .f32⟩
  | _, _ => ⟨S16x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v17 : Ref sig .tc := ⟨.hbm, 31, rfl⟩
abbrev main_call2_c : Ref sig .tc := ⟨.hbm, 32, rfl⟩
abbrev main_call2_v0 : Ref sig .tc := ⟨.hbm, 33, rfl⟩
abbrev main_call2_v1 : Ref sig .tc := ⟨.hbm, 34, rfl⟩
abbrev main_call2_c_0 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_c_1 : Ref sig .tc := ⟨.hbm, 40, rfl⟩
abbrev main_call2_c_2 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_3 : Ref sig .tc := ⟨.hbm, 48, rfl⟩
abbrev main_call2_v12 : Ref sig .tc := ⟨.hbm, 49, rfl⟩
abbrev main_call2_v13 : Ref sig .tc := ⟨.hbm, 50, rfl⟩
abbrev main_call2_v14 : Ref sig .tc := ⟨.hbm, 51, rfl⟩
abbrev main_call2_cst : Ref sig .tc := ⟨.hbm, 52, rfl⟩
abbrev main_call2_v15 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_cst_2 : Ref sig .tc := ⟨.hbm, 59, rfl⟩
abbrev main_v23 : Ref sig .tc := ⟨.hbm, 60, rfl⟩
abbrev main_cst_3 : Ref sig .tc := ⟨.hbm, 61, rfl⟩
abbrev main_v24 : Ref sig .tc := ⟨.hbm, 62, rfl⟩
abbrev main_cst_4 : Ref sig .tc := ⟨.hbm, 63, rfl⟩
abbrev main_v25 : Ref sig .tc := ⟨.hbm, 64, rfl⟩
abbrev main_cst_5 : Ref sig .tc := ⟨.hbm, 65, rfl⟩
abbrev main_v26 : Ref sig .tc := ⟨.hbm, 66, rfl⟩
abbrev main_cst_6 : Ref sig .tc := ⟨.hbm, 67, rfl⟩
abbrev main_v27 : Ref sig .tc := ⟨.hbm, 68, rfl⟩
abbrev main_v28 : Ref sig .tc := ⟨.hbm, 69, rfl⟩
abbrev main_cst_7 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_cst_8 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩

abbrev nD : Nat := 1
abbrev τ : Topo := Topo.v7x

variable {F : FTy → Type} [FloatOps F]
-- ==== Proof.Point.lean ====
/- What the kernel leaves after each grid point, in the kernel's own payloads over the point's block of rows and the whole
   codebook: the two arrays of the codebook computed at the first point are held for all the others, and the two
   accumulators add one block's term per point. -/
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.VQ.Ker

open Idealize.ShloMosaic Idealize.ShloMosaic.TcCoe Idealize.SL.Sem Cert.KernelIdeal Cert.KernelIdeal.Gen

variable (m : (ℓ : Loc nD τ sig) → Buf (Elt Ideal) ℓ) (c : Dev nD)

/-- The codebook. -/
abbrev eA : FVec Ideal S1024x64 .f32 := m ((c : Thread nD τ).loc main_arg1)

/-- The flattened input: one row of 64 numbers per position. -/
abbrev zA : FVec Ideal S16384x64 .f32 := V m c main_v1

/-- Where each window's block sits at each point. -/
theorem place : ∀ t : Fin cfg0.N, win0_0.index t = ![t.val, 0] ∧ win0_1.index t = ![0, 0] ∧ win0_2.index t = ![t.val, 0]
    ∧ win0_3.index t = ![t.val, 0, 0] ∧ win0_4.index t = ![t.val, 0] ∧ win0_5.index t = ![t.val, 0] :=
  (by decide +kernel : ∀ t : Fin grid0.N, _)

/-- The rows of a point. -/
abbrev zB (t : Fin cfg0.N) : FVec Ideal S512x64 .f32 := iblk m c 0 t

/-- The codebook's block is the whole codebook. -/
theorem book (t : Fin cfg0.N) : iblk m c 1 t = eA m c := by
  blk_ext! [iblk, V, place t]

/-- The distances of a point's rows. -/
abbrev distB (t : Fin cfg0.N) : FVec Ideal S512x1024 .f32 := k0_pay12 (F := Ideal) (zB m c t) (k0_pay10 (F := Ideal) (eA m c)) (k0_pay9 (F := Ideal) (eA m c))
/-- The least positions of a point's rows. -/
abbrev idxB (t : Fin cfg0.N) : IVec S1x1x512 32 := k0_pay14 (F := Ideal) (zB m c t) (k0_pay10 (F := Ideal) (eA m c)) (k0_pay9 (F := Ideal) (eA m c))
/-- The marking rows of a point. -/
abbrev hotB (t : Fin cfg0.N) : FVec Ideal S512x1024 .f32 := k0_pay15 (F := Ideal) (zB m c t) (k0_pay10 (F := Ideal) (eA m c)) (k0_pay9 (F := Ideal) (eA m c))
/-- The codebook rows of a point. -/
abbrev zqB (t : Fin cfg0.N) : FVec Ideal S512x64 .f32 := k0_pay16 (F := Ideal) (zB m c t) (eA m c) (k0_pay10 (F := Ideal) (eA m c)) (k0_pay9 (F := Ideal) (eA m c))
/-- The squared differences of a point. -/
abbrev sqB (t : Fin cfg0.N) : FVec Ideal S1x512x64 .f32 := k0_pay17 (F := Ideal) (zB m c t) (eA m c) (k0_pay10 (F := Ideal) (eA m c)) (k0_pay9 (F := Ideal) (eA m c))

/-- What the first point leaves. -/
theorem first (t : Fin cfg0.N) (h0 : t.val % 32 = 0) (h2 : ¬1 ≤ t.val) (h3 : ¬t.val % 32 = 31) :
    (outsAt0 m c t.val t.isLt).1 = distB m c t
    ∧ (outsAt0 m c t.val t.isLt).2.1 = idxB m c t
    ∧ (outsAt0 m c t.val t.isLt).2.2.1 = hotB m c t
    ∧ (outsAt0 m c t.val t.isLt).2.2.2.1 = zqB m c t
    ∧ (outsAt0 m c t.val t.isLt).2.2.2.2.2.2.1 = k0_pay3 (F := Ideal) (sqB m c t)
    ∧ (outsAt0 m c t.val t.isLt).2.2.2.2.2.2.2.1 = k0_pay4 (F := Ideal) (hotB m c t)
    ∧ (outsAt0 m c t.val t.isLt).2.2.2.2.2.2.2.2.1 = k0_pay9 (F := Ideal) (eA m c)
    ∧ (outsAt0 m c t.val t.isLt).2.2.2.2.2.2.2.2.2 = k0_pay10 (F := Ideal) (eA m c) := by
  rw [outsAt0_A m c t h0 h0 h2 h3]
  refine ⟨?_, ?_, ?_, ?_, ?_, ?_, ?_, ?_⟩ <;> frame_out <;> simp only [book]

/-- What a point between the first and the last leaves over what the point before left. -/
theorem next (t : Fin cfg0.N) (h0 : ¬t.val % 32 = 0) (h2 : 1 ≤ t.val) (h3 : ¬t.val % 32 = 31)
    (hs : (outsAt0 m c (t.val - 1) (Nat.lt_of_le_of_lt (Nat.sub_le _ _) t.isLt)).2.2.2.2.2.2.2.2 = (k0_pay9 (F := Ideal) (eA m c), k0_pay10 (F := Ideal) (eA m c))) :
    (outsAt0 m c t.val t.isLt).1 = distB m c t
    ∧ (outsAt0 m c t.val t.isLt).2.1 = idxB m c t
    ∧ (outsAt0 m c t.val t.isLt).2.2.1 = hotB m c t
    ∧ (outsAt0 m c t.val t.isLt).2.2.2.1 = zqB m c t
    ∧ (outsAt0 m c t.val t.isLt).2.2.2.2.2.2.1 = k0_pay5 (F := Ideal) (sqB m c t) (outsAt0 m c (t.val - 1) (Nat.lt_of_le_of_lt (Nat.sub_le _ _) t.isLt)).2.2.2.2.2.2.1
    ∧ (outsAt0 m c t.val t.isLt).2.2.2.2.2.2.2.1 = k0_pay6 (F := Ideal) (hotB m c t) (outsAt0 m c (t.val - 1) (Nat.lt_of_le_of_lt (Nat.sub_le _ _) t.isLt)).2.2.2.2.2.2.2.1
    ∧ (outsAt0 m c t.val t.isLt).2.2.2.2.2.2.2.2.1 = k0_pay9 (F := Ideal) (eA m c)
    ∧ (outsAt0 m c t.val t.isLt).2.2.2.2.2.2.2.2.2 = k0_pay10 (F := Ideal) (eA m c) := by
  rw [outsAt0_B m c t h0 h0 h2 h3]
  refine ⟨?_, ?_, ?_, ?_, ?_, ?_, ?_, ?_⟩ <;> frame_out <;> simp only [read_unread_whole, book, hs, sout0_B_2, sout0_B_3]

/-- What the last point leaves over what the point before left. -/
theorem last (t : Fin cfg0.N) (h0 : ¬t.val % 32 = 0) (h2 : 1 ≤ t.val) (h3 : t.val % 32 = 31)
    (hs : (outsAt0 m c (t.val - 1) (Nat.lt_of_le_of_lt (Nat.sub_le _ _) t.isLt)).2.2.2.2.2.2.2.2 = (k0_pay9 (F := Ideal) (eA m c), k0_pay10 (F := Ideal) (eA m c))) :
    (outsAt0 m c t.val t.isLt).1 = distB m c t
    ∧ (outsAt0 m c t.val t.isLt).2.1 = idxB m c t
    ∧ (outsAt0 m c t.val t.isLt).2.2.1 = hotB m c t
    ∧ (outsAt0 m c t.val t.isLt).2.2.2.1 = zqB m c t
    ∧ (outsAt0 m c t.val t.isLt).2.2.2.2.2.2.1 = k0_pay5 (F := Ideal) (sqB m c t) (outsAt0 m c (t.val - 1) (Nat.lt_of_le_of_lt (Nat.sub_le _ _) t.isLt)).2.2.2.2.2.2.1
    ∧ (outsAt0 m c t.val t.isLt).2.2.2.2.2.2.2.1 = k0_pay6 (F := Ideal) (hotB m c t) (outsAt0 m c (t.val - 1) (Nat.lt_of_le_of_lt (Nat.sub_le _ _) t.isLt)).2.2.2.2.2.2.2.1
    ∧ (outsAt0 m c t.val t.isLt).2.2.2.2.2.2.2.2.1 = k0_pay9 (F := Ideal) (eA m c)
    ∧ (outsAt0 m c t.val t.isLt).2.2.2.2.2.2.2.2.2 = k0_pay10 (F := Ideal) (eA m c) := by
  rw [outsAt0_C m c t h0 h0 h2 h3]
  refine ⟨?_, ?_, ?_, ?_, ?_, ?_, ?_, ?_⟩ <;> frame_out <;> simp only [read_unread_whole, book, hs, sout0_C_2, sout0_C_3]

/-- The two scalars the last point writes: the scaled loss accumulator and the perplexity of the counts. -/
theorem last_scalars (t : Fin cfg0.N) (h0 : ¬t.val % 32 = 0) (h2 : 1 ≤ t.val) (h3 : t.val % 32 = 31)
    (hs : (outsAt0 m c (t.val - 1) (Nat.lt_of_le_of_lt (Nat.sub_le _ _) t.isLt)).2.2.2.2.2.2.2.2 = (k0_pay9 (F := Ideal) (eA m c), k0_pay10 (F := Ideal) (eA m c))) :
    (outsAt0 m c t.val t.isLt).2.2.2.2.1 = k0_pay7 (F := Ideal) (outsAt0 m c t.val t.isLt).2.2.2.2.2.2.1
    ∧ (outsAt0 m c t.val t.isLt).2.2.2.2.2.1 = k0_pay8 (F := Ideal) (outsAt0 m c t.val t.isLt).2.2.2.2.2.2.2.1 := by
  obtain ⟨-, -, -, -, e7, e8, -, -⟩ := last m c t h0 h2 h3 hs
  rw [e7, e8, outsAt0_C m c t h0 h0 h2 h3]
  refine ⟨?_, ?_⟩ <;> frame_out <;> simp only [read_unread_whole, book, hs]

end Cert.VQ.Ker

end
-- ==== Proof.RefTerms.lean ====
/- What the reference's six results are, written as the program's own operations over the two arguments, one
   definition per stage. Nothing is computed here; the values at an index are in `RefVal`. -/
module

public import proofs.«01_k».proof.ReferenceIdeal
public import proofs.«01_k».proof.Proof.Gen.ReferenceIdeal
public import Idealize.ShloMosaic.PureOps.Ideal

@[expose] public section

noncomputable section

namespace Cert.VQ.Ref

open Idealize.ShloMosaic Cert.ReferenceIdeal Cert.ReferenceIdeal.Facts₀

/-- The input with its channel axis last, one row per token. -/
def flat (z : FVec Ideal S16x64x32x32 .f32) : FVec Ideal S16384x64 .f32 :=
  shapeCast S16384x64 (transpose S16x32x32x64 [0, 2, 3, 1] z transposes_S16x64x32x32_S16x32x32x64_0_2_3_1)
    shapeCasts_S16x32x32x64_S16384x64

/-- The squared distances of every token to every codebook row, by the expanded square. -/
def dist (x : FVec Ideal S16384x64 .f32) (e : FVec Ideal S1024x64 .f32) : FVec Ideal S16384x1024 .f32 :=
  subf
    (addf
      (broadcastInDim S16384x1024 ![0, 1] bcast_S16384x1_S16384x1024_0_1
        (broadcastInDim S16384x1 ![0] bcast_S16384_S16384x1_0
          (Host.reduceAdd (mulf x x) (constant S_ .f32 0x00000000#32) reducesTo_S16384x64_S16384_d1 h_S_)))
      (broadcastInDim S16384x1024 ![0, 1] bcast_S1x1024_S16384x1024_0_1
        (broadcastInDim S1x1024 ![1] bcast_S1024_S1x1024_1
          (Host.reduceAdd (mulf e e) (constant S_ .f32 0x00000000#32) reducesTo_S1024x64_S1024_d1 h_S_))))
    (mulf (broadcastInDim S16384x1024 ![] bcast_S_S16384x1024 (constant S_ .f32 0x40000000#32))
      (Host.dotGeneral dot_S16384x64_S64x1024_S16384x1024_1_0_0_1_n_n none x
        (transpose S64x1024 [1, 0] e transposes_S1024x64_S64x1024_1_0)))

/-- Each row's least entry's position. -/
def idx (d : FVec Ideal S16384x1024 .f32) : IVec S16384 32 := fun j =>
  (Host.argReduce reducer_argmin_f32_i32 d (iotaInDim S16384x1024 32 1) (constant (F := Ideal) S_ .f32 0x7F800000#32)
    (constantI S_ 32 0#32) reducesTo_S16384x1024_S16384_d1 h_S_ j).2

/-- The 0/1 row that marks each index. -/
def hot (i : IVec S16384 32) : FVec Ideal S16384x1024 .f32 :=
  uitofp .f32 (cmpi .eq
    (broadcastInDim S16384x1024 ![0, 1] bcast_S16384x1_S16384x1024_0_1 (broadcastInDim S16384x1 ![0] bcast_S16384_S16384x1_0 i))
    (broadcastInDim S16384x1024 ![0, 1] bcast_S1x1024_S16384x1024_0_1 (iotaInDim S1x1024 32 1)))

/-- The index column that the row look-up reads: a negative index counts from the end. -/
def wrapped (i : IVec S16384 32) : IVec S16384x1 32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 1024#32))) i)

/-- Whether each index of that column is a row of the codebook. -/
def inRange (w : IVec S16384x1 32) : IVec S16384 1 :=
  Host.reduce IntOp.andi
    (andi (cmpi .sge w (broadcastInDim S16384x1 ![] bcast_S_S16384x1 (constantI S_ 32 0#32)))
      (cmpi .sle w (broadcastInDim S16384x1 ![0, 1] bcast_S1x1_S16384x1_0_1
        (broadcastInDim S1x1 ![1] bcast_S1_S1x1_1 (constantI S1 32 1023#32)))))
    (constantI S_ 1 1#1) reducesTo_S16384x1_S16384_d1 h_S_

/-- The codebook row of each index. -/
def look (e : FVec Ideal S1024x64 .f32) (i : IVec S16384 32) : FVec Ideal S16384x64 .f32 :=
  select (broadcastInDim S16384x64 ![0] bcast_S16384_S16384x64_0 (inRange (wrapped i)))
    (Host.gather gather_S1024x64_S16384x1_S16384x64_1_0_n_n_0_1_164 e (wrapped i))
    (broadcastInDim S16384x64 ![] bcast_S_S16384x64 (constant S_ .f32 0x7FC00000#32))

/-- Those rows back in the input's layout. -/
def quant (q : FVec Ideal S16384x64 .f32) : FVec Ideal S16x64x32x32 .f32 :=
  transpose S16x64x32x32 [0, 3, 1, 2] (shapeCast S16x32x32x64 q shapeCasts_S16384x64_S16x32x32x64)
    transposes_S16x32x32x64_S16x64x32x32_0_3_1_2

/-- The straight-through result. -/
def st (z q : FVec Ideal S16x64x32x32 .f32) : FVec Ideal S16x64x32x32 .f32 := addf z (subf q z)

/-- The loss: a quarter of the mean squared difference. -/
def loss (z q : FVec Ideal S16x64x32x32 .f32) : FVec Ideal S_ .f32 :=
  mulf (constant S_ .f32 0x3E800000#32)
    (Host.divf (Host.reduceAdd (mulf (subf q z) (subf q z)) (constant S_ .f32 0x00000000#32)
      reducesTo_S16x64x32x32_S_d0_1_2_3 h_S_) (constant S_ .f32 0x49800000#32))

/-- How often each codebook row is used, as a fraction. -/
def freq (h : FVec Ideal S16384x1024 .f32) : FVec Ideal S1024 .f32 :=
  Host.divf (Host.reduceAdd h (constant S_ .f32 0x00000000#32) reducesTo_S16384x1024_S1024_d0 h_S_)
    (broadcastInDim S1024 ![] bcast_S_S1024 (constant S_ .f32 0x46800000#32))

/-- The perplexity: the exponential of the entropy of those fractions. -/
def perp (p : FVec Ideal S1024 .f32) : FVec Ideal S_ .f32 :=
  Host.exp (Host.negf (Host.reduceAdd
    (mulf p (Host.log (addf p (broadcastInDim S1024 ![] bcast_S_S1024 (constant S_ .f32 0x2EDBE6FF#32)))))
    (constant S_ .f32 0x00000000#32) reducesTo_S1024_S_d0 h_S_))

end Cert.VQ.Ref

end
-- ==== Proof.Least.lean ====
/- The first position of a row's least entry, and that both programs compute it: the kernel's index reduction and the
   reference's fold over (value, position) pairs. Where a row's least value occurs more than once both give the first
   position. -/
module

public import proofs.«01_k».proof.Proof.Gen.KernelIdeal
public import proofs.«01_k».proof.Proof.RefTerms
public import Idealize.ShloMosaic.Lib.Pointwise

@[expose] public section

set_option maxRecDepth 16384

noncomputable section

namespace Cert.VQ

open Idealize.ShloMosaic

/-- `k` is the first position of the least value of `f`. -/
def IsFirst {n : ℕ} (f : Fin n → EReal) (k : Fin n) : Prop := ∀ i, f k < f i ∨ (f k = f i ∧ k ≤ i)

/-- A nonempty row has such a position. -/
theorem exists_isFirst {n : ℕ} (f : Fin (n + 1) → EReal) : ∃ k, IsFirst f k := by
  obtain ⟨k, hk⟩ := Finite.exists_min (fun k : Fin (n + 1) => toLex (f k, k))
  exact ⟨k, fun i => Prod.Lex.toLex_le_toLex.1 (hk i)⟩

/-- A row has only one such position. -/
theorem IsFirst.unique {n : ℕ} {f : Fin n → EReal} {k k' : Fin n} (h : IsFirst f k) (h' : IsFirst f k') : k = k' := by
  rcases h k' with h1 | ⟨h1, h2⟩ <;> rcases h' k with h3 | ⟨h3, h4⟩
  · exact absurd h3 h1.asymm
  · exact absurd h3 h1.ne'
  · exact absurd h1 h3.ne'
  · exact le_antisymm h2 h4

/-- The first position of the least value of a row of 1024. -/
def least (f : Fin 1024 → EReal) : Fin 1024 := (exists_isFirst f).choose

/-- It is such a position. -/
theorem least_isFirst (f : Fin 1024 → EReal) : IsFirst f (least f) := (exists_isFirst f).choose_spec

/-- The kernel's index reduction gives it. -/
theorem reduceIndex_least (x : (⟨2, ![512, 1024]⟩ : Shape).Idx → EReal)
    (h : (⟨2, ![512, 1024]⟩ : Shape).Reduces [1] ⟨1, ![512]⟩) (r : Fin 512) :
    Ideal.reduceIndex .argMin 1 h x (ix1 r) = BitVec.ofNat 32 (least fun k => x (ix2 r k)).val := by
  have hf : ∀ i, h.drop i = ix1 r ↔ ∃ k : Fin 1024, ix2 r k = i := h.fiber_r2_a1 (ix1 r)
  have hl := least_isFirst fun k => x (ix2 r k)
  generalize hk : (least fun k => x (ix2 r k)) = k at hl ⊢
  unfold Ideal.reduceIndex
  simp only [reduceCtorEq, if_false]
  generalize hE : (Finset.filter (fun i => ∀ i' ∈ Finset.filter (fun i => h.drop i = ix1 r) Finset.univ, ¬x i' < x i)
    (Finset.filter (fun i => h.drop i = ix1 r) Finset.univ)) = E
  have hmem : ∀ i, i ∈ E ↔ ∃ q : Fin 1024, ix2 r q = i ∧ ∀ q' : Fin 1024, ¬x (ix2 r q') < x (ix2 r q) := by
    intro i
    subst hE
    simp only [Finset.mem_filter, Finset.mem_univ, true_and, hf]
    constructor
    · rintro ⟨⟨q, rfl⟩, h2⟩
      exact ⟨q, rfl, fun q' => h2 _ ⟨q', rfl⟩⟩
    · rintro ⟨q, rfl, h2⟩
      refine ⟨⟨q, rfl⟩, ?_⟩
      rintro _ ⟨q', rfl⟩
      exact h2 q'
  have hmin : (E.image fun i => (i 1).val).min = ((k.val : ℕ) : WithTop ℕ) := by
    refine le_antisymm (Finset.min_le (Finset.mem_image.2 ⟨ix2 r k, (hmem _).2 ⟨k, rfl, fun q' => ?_⟩, rfl⟩))
      (Finset.le_min fun a ha => ?_)
    · rcases hl q' with h1 | ⟨h1, -⟩
      · exact h1.asymm
      · exact not_lt.2 (le_of_eq h1)
    · obtain ⟨i, hi, rfl⟩ := Finset.mem_image.1 ha
      obtain ⟨q, rfl, hq⟩ := (hmem i).1 hi
      rcases hl q with h1 | ⟨-, h1⟩
      · exact absurd h1 (hq k)
      · exact WithTop.coe_le_coe.2 h1
  rw [hmin]
  rfl

/-- One pair is before another: a smaller value, or the same value at no later a position. -/
def Before (a b : EReal × BitVec 32) : Prop := a.1 < b.1 ∨ (a.1 = b.1 ∧ a.2.toInt ≤ b.2.toInt)

/-- Being before is transitive. -/
theorem Before.trans {a b d : EReal × BitVec 32} (h : Before a b) (h' : Before b d) : Before a d := by
  rcases h with h | ⟨h, h1⟩ <;> rcases h' with h' | ⟨h', h1'⟩
  · exact .inl (h.trans h')
  · exact .inl (h' ▸ h)
  · exact .inl (h ▸ h')
  · exact .inr ⟨h.trans h', h1.trans h1'⟩

/-- A pair is before itself. -/
theorem Before.refl (a : EReal × BitVec 32) : Before a a := .inr ⟨rfl, le_refl _⟩

/-- The reference's body gives one of its two pairs, the one before the other. -/
theorem body_before (a b : EReal × BitVec 32) :
    (Cert.ReferenceIdeal.reducer_argmin_f32_i32 (F := Ideal) a b = a
      ∨ Cert.ReferenceIdeal.reducer_argmin_f32_i32 (F := Ideal) a b = b)
    ∧ Before (Cert.ReferenceIdeal.reducer_argmin_f32_i32 (F := Ideal) a b) a
    ∧ Before (Cert.ReferenceIdeal.reducer_argmin_f32_i32 (F := Ideal) a b) b := by
  obtain ⟨a1, a2⟩ := a
  obtain ⟨b1, b2⟩ := b
  have key : Cert.ReferenceIdeal.reducer_argmin_f32_i32 (F := Ideal) (a1, a2) (b1, b2)
      = if a1 < b1 ∨ (a1 = b1 ∧ a2.toInt < b2.toInt) then (a1, a2) else (b1, b2) := by
    unfold Cert.ReferenceIdeal.reducer_argmin_f32_i32
    by_cases h1 : a1 < b1
    · simp [Ideal.cmpf_def, Ideal.cmp, IntOp.ori, IntOp.andi, IntOp.cmpi, Scalar.select, h1, h1.ne]
    · by_cases h2 : a1 = b1
      · subst h2
        by_cases h3 : a2.toInt < b2.toInt <;>
          simp [Ideal.cmpf_def, Ideal.cmp, IntOp.ori, IntOp.andi, IntOp.cmpi, Scalar.select, BitVec.slt, h3]
      · simp [Ideal.cmpf_def, Ideal.cmp, IntOp.ori, IntOp.andi, IntOp.cmpi, Scalar.select, h1, h2]
  rw [key]
  split_ifs with h
  · exact ⟨.inl rfl, .refl _, h.imp id fun h => ⟨h.1, h.2.le⟩⟩
  · refine ⟨.inr rfl, ?_, .refl _⟩
    rcases lt_trichotomy a1 b1 with h1 | h1 | h1
    · exact absurd (.inl h1) h
    · exact .inr ⟨h1.symm, not_lt.1 fun h2 => h (.inr ⟨h1, h2⟩)⟩
    · exact .inl h1

/-- The fold of that body gives its start or one of the list's pairs, before the start and before them all. -/
theorem fold_before (l : List (EReal × BitVec 32)) (a : EReal × BitVec 32) :
    (l.foldl (Cert.ReferenceIdeal.reducer_argmin_f32_i32 (F := Ideal)) a = a
      ∨ l.foldl (Cert.ReferenceIdeal.reducer_argmin_f32_i32 (F := Ideal)) a ∈ l)
    ∧ Before (l.foldl (Cert.ReferenceIdeal.reducer_argmin_f32_i32 (F := Ideal)) a) a
    ∧ ∀ p ∈ l, Before (l.foldl (Cert.ReferenceIdeal.reducer_argmin_f32_i32 (F := Ideal)) a) p := by
  induction l generalizing a with
  | nil => exact ⟨.inl rfl, .refl a, fun p hp => absurd hp List.not_mem_nil⟩
  | cons b l ih =>
    obtain ⟨h1, h2, h3⟩ := body_before a b
    obtain ⟨i1, i2, i3⟩ := ih (Cert.ReferenceIdeal.reducer_argmin_f32_i32 (F := Ideal) a b)
    rw [List.foldl_cons]
    refine ⟨?_, i2.trans h2, fun p hp => ?_⟩
    · rcases i1 with i1 | i1
      · rcases h1 with h1 | h1
        · exact .inl (i1.trans h1)
        · exact .inr (by rw [i1, h1]; exact List.mem_cons_self)
      · exact .inr (List.mem_cons_of_mem _ i1)
    · rcases List.mem_cons.1 hp with rfl | hp
      · exact i2.trans h3
      · exact i3 p hp

/-- The signed value of a position below 1024 is the position. -/
theorem toInt_pos (k : Fin 1024) : (BitVec.ofNat 32 k.val).toInt = (k.val : ℤ) := by
  have := k.isLt
  rw [BitVec.toInt_eq_toNat_of_lt] <;> rw [BitVec.toNat_ofNat, Nat.mod_eq_of_lt (by omega)]
  omega

/-- The reduction over a row's (value, position) pairs, from the greatest value at position 0, gives the first position of the
    row's least value. -/
theorem fold_least {n : ℕ} {u : Shape} (d : FVec Ideal (⟨2, ![n, 1024]⟩ : Shape) .f32)
    (p : (⟨2, ![n, 1024]⟩ : Shape).Idx → BitVec 32) (hp : ∀ r k, p (ix2 r k) = BitVec.ofNat 32 k.val)
    (a : u.Idx → Ideal .f32) (ha : ∀ i, a i = (⊤ : EReal)) (b : u.Idx → BitVec 32) (hb : ∀ i, b i = 0#32)
    (h : (⟨2, ![n, 1024]⟩ : Shape).ReducesTo [1] ⟨1, ![n]⟩) (hu : 0 < u.numel) (r : Fin n) :
    (Host.argReduce (Cert.ReferenceIdeal.reducer_argmin_f32_i32 (F := Ideal)) d p a b h hu (ix1 r)).2
      = BitVec.ofNat 32 (least fun k => d (ix2 r k)).val := by
  rw [Ideal.argReduce_eq_reduce2, Host.reduce2_eq_foldl_fiber, ha, hb]
  have hmem : ∀ q, q ∈ Host.argReduceFiber d p h (ix1 r)
      ↔ ∃ k : Fin 1024, (d (ix2 r k), BitVec.ofNat 32 k.val) = q := by
    intro q
    simp only [Host.argReduceFiber, List.mem_map, List.mem_filter, List.mem_finRange, true_and, decide_eq_true_eq]
    constructor
    · rintro ⟨m, hm, rfl⟩
      obtain ⟨k, hk⟩ := (h.fiber_r2_a1 (ix1 r) _).1 hm
      refine ⟨k, ?_⟩
      rw [← hk]
      exact Prod.ext rfl (hp r k).symm
    · rintro ⟨k, rfl⟩
      refine ⟨Shape.rowMajor _ (ix2 r k), ?_, ?_⟩
      · rw [Equiv.symm_apply_apply]
        exact (h.fiber_r2_a1 (ix1 r) _).2 ⟨k, rfl⟩
      · rw [Equiv.symm_apply_apply, hp]
  generalize Host.argReduceFiber d p h (ix1 r) = l at hmem ⊢
  obtain ⟨h1, h2, h3⟩ := fold_before l (⊤, 0#32)
  generalize l.foldl (Cert.ReferenceIdeal.reducer_argmin_f32_i32 (F := Ideal)) (⊤, 0#32) = w at h1 h2 h3 ⊢
  obtain ⟨k, hk⟩ : ∃ k : Fin 1024, (d (ix2 r k), BitVec.ofNat 32 k.val) = w := by
    rcases h1 with h1 | h1
    · refine ⟨0, ?_⟩
      have h0 := h3 _ ((hmem _).2 ⟨0, rfl⟩)
      rw [h1] at h0 ⊢
      rcases h0 with h0 | ⟨h0, -⟩
      · exact absurd h0 not_top_lt
      · exact Prod.ext h0.symm rfl
    · exact (hmem _).1 h1
  have hfirst : IsFirst (fun k => d (ix2 r k)) k := by
    intro i
    have hi := h3 _ ((hmem _).2 ⟨i, rfl⟩)
    rw [← hk] at hi
    rcases hi with h | ⟨h, h'⟩
    · exact .inl h
    · refine .inr ⟨h, Fin.le_def.2 ?_⟩
      simp only [toInt_pos] at h'
      exact_mod_cast h'
  rw [← hfirst.unique (least_isFirst _), ← hk]

/-- The value the reference's reduction starts from is the greatest one. -/
theorem start_top : (FloatOps.ofBits (F := Ideal) .f32 0x7F800000#32 : EReal) = ⊤ := by
  simp [Ideal.ofBits_def, Ideal.ofBits, Ideal.ieee]

open Cert.ReferenceIdeal Cert.ReferenceIdeal.Facts₀ in
/-- The reference's least position, as its reduction. -/
theorem idx_def (d : FVec Ideal S16384x1024 .f32) : Ref.idx d = fun j =>
    (Host.argReduce reducer_argmin_f32_i32 d (iotaInDim S16384x1024 32 1) (constant (F := Ideal) S_ .f32 0x7F800000#32)
      (constantI S_ 32 0#32) reducesTo_S16384x1024_S16384_d1 h_S_ j).2 := rfl

/-- The reference's least position is the first one. -/
theorem idx_least (d : FVec Ideal Cert.ReferenceIdeal.S16384x1024 .f32) (r : Fin 16384) :
    Ref.idx d (ix1 r) = BitVec.ofNat 32 (least fun k => d (ix2 r k)).val := by
  rw [idx_def]
  exact fold_least (n := 16384) d _ (fun _ _ => rfl) _ (fun _ => start_top) _ (fun _ => rfl) _ _ r

end Cert.VQ

end
-- ==== Proof.Dist.lean ====
/- The mathematics both programs compute per row: the squared distances by the expanded square and the first position of
   the least one; with the doubling in either place. -/
module

public import proofs.«01_k».proof.Proof.Least

@[expose] public section

set_option maxRecDepth 16384

noncomputable section

namespace Cert.VQ

open Idealize.ShloMosaic

/-- The word of two. -/
theorem word_two : Ideal.ofBits .f32 0x40000000#32 = 2 := by
  simp [Ideal.ofBits, Ideal.ieee]
  rw [← EReal.coe_mul]
  norm_num
  rfl

/-- Twice a sum is the sum of the doubles. -/
theorem two_mul_sum {n : ℕ} (f : Fin n → EReal) : 2 * ∑ d, f d = ∑ d, 2 * f d := by
  have h : ∀ s : Finset (Fin n), 2 * ∑ d ∈ s, f d = ∑ d ∈ s, 2 * f d := by
    intro s
    induction s using Finset.induction_on with
    | empty => simp
    | insert a s ha ih =>
      rw [Finset.sum_insert ha, Finset.sum_insert ha, ← ih]
      exact EReal.left_distrib_of_nonneg_of_ne_top (by norm_num) (EReal.coe_ne_top 2) _ _
  exact h Finset.univ

/-- Doubling every second factor of a sum of products doubles the sum. -/
theorem sum_double {n : ℕ} (f g : Fin n → EReal) : ∑ d, f d * (g d * 2) = 2 * ∑ d, f d * g d := by
  rw [two_mul_sum]
  exact Finset.sum_congr rfl fun d _ => by rw [← mul_assoc, mul_comm]

/-- The squared distance of row `r` of `x` to row `k` of the codebook, by the expanded square. -/
def D {n : ℕ} (x : (⟨2, ![n, 64]⟩ : Shape).Idx → EReal) (e : (⟨2, ![1024, 64]⟩ : Shape).Idx → EReal) (r : Fin n)
    (k : Fin 1024) : EReal :=
  (∑ d : Fin 64, x (ix2 r d) * x (ix2 r d) + ∑ d : Fin 64, e (ix2 k d) * e (ix2 k d))
    - 2 * ∑ d : Fin 64, x (ix2 r d) * e (ix2 k d)

/-- The position of the codebook row nearest to row `r`, the first of several. -/
def pos {n : ℕ} (x : (⟨2, ![n, 64]⟩ : Shape).Idx → EReal) (e : (⟨2, ![1024, 64]⟩ : Shape).Idx → EReal) (r : Fin n) :
    Fin 1024 := least (D x e r)

/-- Two positions with the same word are the same. -/
theorem word_inj {k k' : Fin 1024} : BitVec.ofNat 32 k.val = BitVec.ofNat 32 k'.val ↔ k = k' := by
  have := k.isLt
  have := k'.isLt
  constructor
  · intro h
    have h2 := congrArg BitVec.toNat h
    simp only [BitVec.toNat_ofNat] at h2
    exact Fin.ext (by omega)
  · rintro rfl; rfl

/-- The exponential of the entropy of counts over 16384, with the kernel's scale and offset words. -/
def entropyExp (v : Fin 1024 → EReal) : EReal :=
  Ideal.exp (0 - ∑ k, v k * Ideal.ofBits .f32 0x38800000#32
    * Ideal.log (v k * Ideal.ofBits .f32 0x38800000#32 + Ideal.ofBits .f32 0x2EDBE6FF#32))

end Cert.VQ

end
-- ==== Proof.Block.lean ====
/- The kernel's payloads at an index: what one block of 512 rows gives. -/
module

public import proofs.«01_k».proof.Proof.Dist
public import proofs.«01_k».proof.Proof.Gen.KernelIdeal.Skeleton
public import Idealize.ShloMosaic.Lib.Pointwise

@[expose] public section

set_option maxRecDepth 16384

noncomputable section

namespace Cert.VQ.Ker

open Idealize.ShloMosaic Cert.KernelIdeal Cert.KernelIdeal.Gen

variable (x : FVec Ideal S512x64 .f32) (e : FVec Ideal S1024x64 .f32)

/-- A block's distances. -/
theorem dist_val (r : Fin 512) (k : Fin 1024) :
    k0_pay12 (F := Ideal) x (k0_pay10 (F := Ideal) e) (k0_pay9 (F := Ideal) e) (ix2 r k) = D x e r k := by
  pointwise [k0_pay12, k0_pay10, k0_pay9, k0_pay11]
  rw [word_two, sum_double]
  rfl

/-- A block's first least positions, as a row of 512. -/
theorem pos_val (r : Fin 512) :
    k0_pay13 (F := Ideal) x (k0_pay10 (F := Ideal) e) (k0_pay9 (F := Ideal) e) (ix1 r) = BitVec.ofNat 32 (pos x e r).val := by
  have h := reduceIndex_least (k0_pay12 (F := Ideal) x (k0_pay10 (F := Ideal) e) (k0_pay9 (F := Ideal) e)) reduces_S512x1024_S512 r
  simp only [dist_val] at h
  exact h

/-- Those positions as the kernel stores them. -/
theorem idx_val (a b : Fin 1) (r : Fin 512) :
    k0_pay14 (F := Ideal) x (k0_pay10 (F := Ideal) e) (k0_pay9 (F := Ideal) e) (ix3 a b r) = BitVec.ofNat 32 (pos x e r).val := by
  pointwise [k0_pay14]
  exact pos_val x e r

/-- The marking rows: one at the least position, zero elsewhere. -/
theorem hot_val (r : Fin 512) (k : Fin 1024) :
    k0_pay15 (F := Ideal) x (k0_pay10 (F := Ideal) e) (k0_pay9 (F := Ideal) e) (ix2 r k) = if k = pos x e r then 1 else 0 := by
  pointwise [k0_pay15]
  rw [pos_val, IntOp.cmpi]
  by_cases h : k = pos x e r
  · subst h
    rw [if_pos rfl]
    simp only [beq_self_eq_true]
    show (((BitVec.setWidth 32 (BitVec.ofBool true)).toInt : ℝ) : EReal) = 1
    simp
  · have h2 : ¬BitVec.ofNat 32 k.val = BitVec.ofNat 32 (pos x e r).val := fun h' => h (word_inj.1 h')
    rw [if_neg h]
    simp only [beq_eq_false_iff_ne.2 h2]
    show (((BitVec.setWidth 32 (BitVec.ofBool false)).toInt : ℝ) : EReal) = 0
    simp

/-- The codebook rows. -/
theorem zq_val (r : Fin 512) (l : Fin 64) :
    k0_pay16 (F := Ideal) x e (k0_pay10 (F := Ideal) e) (k0_pay9 (F := Ideal) e) (ix2 r l) = e (ix2 (pos x e r) l) := by
  pointwise [k0_pay16]
  simp only [hot_val, ite_mul, one_mul, zero_mul, Finset.sum_ite_eq', Finset.sum_ite_eq, Finset.mem_univ, if_true]

/-- The squared differences. -/
theorem sq_val (a : Fin 1) (r : Fin 512) (l : Fin 64) :
    k0_pay17 (F := Ideal) x e (k0_pay10 (F := Ideal) e) (k0_pay9 (F := Ideal) e) (ix3 a r l)
      = (e (ix2 (pos x e r) l) - x (ix2 r l)) * (e (ix2 (pos x e r) l) - x (ix2 r l)) := by
  pointwise [k0_pay17, k0_pay11]
  rw [zq_val]

/-- A block's sum of squares. -/
theorem sum_val (v : FVec Ideal S1x512x64 .f32) (a b : Fin 1) :
    k0_pay1 (F := Ideal) v (ix2 a b) = ∑ r : Fin 512, ∑ l : Fin 64, v (ix3 0 r l) := by
  pointwise [k0_pay1]

/-- A block's counts. -/
theorem count_val (v : FVec Ideal S512x1024 .f32) (a : Fin 1) (k : Fin 1024) :
    k0_pay2 (F := Ideal) v (ix2 a k) = ∑ r : Fin 512, v (ix2 r k) := by
  pointwise [k0_pay2]

/-- The scaled loss. -/
theorem loss_val (v : FVec Ideal S1x1 .f32) (a b : Fin 1) :
    k0_pay7 (F := Ideal) v (ix2 a b) = Ideal.ofBits .f32 0x34800000#32 * v (ix2 a b) := by
  pointwise [k0_pay7]

/-- The perplexity of the counts. -/
theorem perp_val (v : FVec Ideal S1x1024 .f32) (a b : Fin 1) :
    k0_pay8 (F := Ideal) v (ix2 a b) = entropyExp fun k => v (ix2 0 k) := by
  pointwise [k0_pay8]
  rw [Fin.sum_univ_one]
  rfl

end Cert.VQ.Ker

end
-- ==== Proof.Held.lean ====
/- What every grid point leaves: the held arrays of the codebook stay, so each point's blocks are those of its own rows; and
   what the accumulators hold after the last point. -/
module

public import proofs.«01_k».proof.Proof.Point
public import proofs.«01_k».proof.Proof.Block

@[expose] public section

set_option maxRecDepth 16384

noncomputable section

namespace Cert.VQ.Ker

open Idealize.ShloMosaic Idealize.ShloMosaic.TcCoe Idealize.SL.Sem Cert.KernelIdeal Cert.KernelIdeal.Gen

variable (m : (ℓ : Loc nD τ sig) → Buf (Elt Ideal) ℓ) (c : Dev nD)

/-- Every point leaves the two arrays of the codebook as the first one computed them. -/
theorem held (n : ℕ) (hn : n < cfg0.N) :
    (outsAt0 m c n hn).2.2.2.2.2.2.2.2 = (k0_pay9 (F := Ideal) (eA m c), k0_pay10 (F := Ideal) (eA m c)) := by
  have hN : cfg0.N = 32 := N_0
  induction n with
  | zero =>
    obtain ⟨-, -, -, -, -, -, e7, e8⟩ := first m c ⟨0, hn⟩ rfl (by simp) (by simp)
    exact Prod.ext e7 e8
  | succ n ih =>
    by_cases h3 : (n + 1) % 32 = 31
    · obtain ⟨-, -, -, -, -, -, e7, e8⟩ := last m c ⟨n + 1, hn⟩ (by dsimp only; omega) (by dsimp only; omega) h3 (ih _)
      exact Prod.ext e7 e8
    · obtain ⟨-, -, -, -, -, -, e7, e8⟩ := next m c ⟨n + 1, hn⟩ (by dsimp only; omega) (by dsimp only; omega) h3 (ih _)
      exact Prod.ext e7 e8

/-- The four blocks every point leaves. -/
theorem blocks (t : Fin cfg0.N) :
    (outsAt0 m c t.val t.isLt).1 = distB m c t
    ∧ (outsAt0 m c t.val t.isLt).2.1 = idxB m c t
    ∧ (outsAt0 m c t.val t.isLt).2.2.1 = hotB m c t
    ∧ (outsAt0 m c t.val t.isLt).2.2.2.1 = zqB m c t := by
  have hN : cfg0.N = 32 := N_0
  have ht := t.isLt
  by_cases h0 : t.val % 32 = 0
  · obtain ⟨e1, e2, e3, e4, -⟩ := first m c t h0 (by omega) (by omega)
    exact ⟨e1, e2, e3, e4⟩
  · by_cases h3 : t.val % 32 = 31
    · obtain ⟨e1, e2, e3, e4, -⟩ := last m c t h0 (by omega) h3 (held m c _ _)
      exact ⟨e1, e2, e3, e4⟩
    · obtain ⟨e1, e2, e3, e4, -⟩ := next m c t h0 (by omega) h3 (held m c _ _)
      exact ⟨e1, e2, e3, e4⟩

/-- The first point sets the two accumulators to its own terms. -/
theorem acc_first (t : Fin cfg0.N) (h0 : t.val % 32 = 0) :
    (outsAt0 m c t.val t.isLt).2.2.2.2.2.2.1 = k0_pay1 (F := Ideal) (sqB m c t)
    ∧ (outsAt0 m c t.val t.isLt).2.2.2.2.2.2.2.1 = k0_pay2 (F := Ideal) (hotB m c t) := by
  have hN : cfg0.N = 32 := N_0
  have ht := t.isLt
  obtain ⟨-, -, -, -, e5, e6, -⟩ := first m c t h0 (by omega) (by omega)
  rw [e5, e6]
  constructor <;> (funext j; idx_vars j; pointwise [k0_pay3, k0_pay4])

/-- Each later point adds its own terms. -/
theorem acc_next (t : Fin cfg0.N) (h0 : ¬t.val % 32 = 0) :
    (outsAt0 m c t.val t.isLt).2.2.2.2.2.2.1
      = addf (outsAt0 m c (t.val - 1) (Nat.lt_of_le_of_lt (Nat.sub_le _ _) t.isLt)).2.2.2.2.2.2.1 (k0_pay1 (F := Ideal) (sqB m c t))
    ∧ (outsAt0 m c t.val t.isLt).2.2.2.2.2.2.2.1
      = addf (outsAt0 m c (t.val - 1) (Nat.lt_of_le_of_lt (Nat.sub_le _ _) t.isLt)).2.2.2.2.2.2.2.1 (k0_pay2 (F := Ideal) (hotB m c t)) := by
  have hN : cfg0.N = 32 := N_0
  have ht := t.isLt
  have h : ∀ (v : FVec Ideal S1x512x64 .f32) (a : FVec Ideal S1x1 .f32), k0_pay5 (F := Ideal) v a = addf a (k0_pay1 (F := Ideal) v) := by
    intro v a; funext j; idx_vars j; pointwise [k0_pay5]
  have h' : ∀ (v : FVec Ideal S512x1024 .f32) (a : FVec Ideal S1x1024 .f32), k0_pay6 (F := Ideal) v a = addf a (k0_pay2 (F := Ideal) v) := by
    intro v a; funext j; idx_vars j; pointwise [k0_pay6]
  by_cases h3 : t.val % 32 = 31
  · obtain ⟨-, -, -, -, e5, e6, -⟩ := last m c t h0 (by omega) h3 (held m c _ _)
    exact ⟨e5.trans (h _ _), e6.trans (h' _ _)⟩
  · obtain ⟨-, -, -, -, e5, e6, -⟩ := next m c t h0 (by omega) h3 (held m c _ _)
    exact ⟨e5.trans (h _ _), e6.trans (h' _ _)⟩

/-- The point `t` as a grid point. -/
abbrev pt (t : Fin 32) : Fin cfg0.N := ⟨t.val, lt_of_lt_of_eq t.isLt (Eq.symm N_0)⟩

/-- A sum over the points up to the last, by the accumulator's own steps. -/
theorem sum_steps (f : ℕ → EReal) (g : Fin 32 → EReal) (h0 : f 0 = g 0)
    (hs : ∀ t : Fin 32, t.val ≠ 0 → f t.val = f (t.val - 1) + g t) : f 31 = ∑ t, g t := by
  have h : ∀ n (hn : n < 32), f n = ∑ t : Fin 32 with t.val ≤ n, g t := by
    intro n hn
    induction n with
    | zero =>
      rw [h0, Finset.sum_eq_single_of_mem (0 : Fin 32) (by simp)]
      intro b hb hb0
      exact absurd (Fin.ext (by simpa using hb)) hb0
    | succ n ih =>
      rw [hs ⟨n + 1, hn⟩ (by simp), Nat.add_sub_cancel, ih (by omega)]
      have e : (Finset.univ.filter fun t : Fin 32 => t.val ≤ n + 1)
          = insert ⟨n + 1, hn⟩ (Finset.univ.filter fun t : Fin 32 => t.val ≤ n) := by
        ext t
        simp only [Finset.mem_filter, Finset.mem_univ, true_and, Finset.mem_insert, Fin.ext_iff]
        omega
      rw [e, Finset.sum_insert (by simp), add_comm]
  rw [h 31 (by omega)]
  exact Finset.sum_congr (Finset.filter_true_of_mem fun t _ => by have := t.isLt; omega) fun _ _ => rfl

/-- The last point. -/
abbrev tl : Fin cfg0.N := pt 31

/-- After the last point the loss accumulator holds the sum of all squared differences. -/
theorem acc_last (a b : Fin 1) : (outsAt0 m c 31 tl.isLt).2.2.2.2.2.2.1 (ix2 a b)
    = ∑ t : Fin 32, ∑ r : Fin 512, ∑ l : Fin 64, sqB m c (pt t) (ix3 0 r l) := by
  have hN : cfg0.N = 32 := N_0
  have key := sum_steps (fun n => if hn : n < cfg0.N then (outsAt0 m c n hn).2.2.2.2.2.2.1 (ix2 a b) else 0)
    (fun t => k0_pay1 (F := Ideal) (sqB m c (pt t)) (ix2 a b))
    (by
      exact (dif_pos (pt 0).isLt).trans (congrFun (acc_first m c (pt 0) rfl).1 _))
    (fun t ht => by
      rw [dif_pos (pt t).isLt, dif_pos (Nat.lt_of_le_of_lt (Nat.sub_le _ _) (pt t).isLt)]
      exact congrFun (acc_next m c (pt t) (by have := t.isLt; show ¬t.val % 32 = 0; omega)).1 _)
  refine (((dif_pos tl.isLt).symm.trans key).trans ?_)
  exact Finset.sum_congr rfl fun t _ => sum_val _ a b

/-- After the last point the counts hold the sum of all marking rows. -/
theorem cnt_last (a : Fin 1) (k : Fin 1024) : (outsAt0 m c 31 tl.isLt).2.2.2.2.2.2.2.1 (ix2 a k)
    = ∑ t : Fin 32, ∑ r : Fin 512, hotB m c (pt t) (ix2 r k) := by
  have hN : cfg0.N = 32 := N_0
  have key := sum_steps (fun n => if hn : n < cfg0.N then (outsAt0 m c n hn).2.2.2.2.2.2.2.1 (ix2 a k) else 0)
    (fun t => k0_pay2 (F := Ideal) (hotB m c (pt t)) (ix2 a k))
    (by
      exact (dif_pos (pt 0).isLt).trans (congrFun (acc_first m c (pt 0) rfl).2 _))
    (fun t ht => by
      rw [dif_pos (pt t).isLt, dif_pos (Nat.lt_of_le_of_lt (Nat.sub_le _ _) (pt t).isLt)]
      exact congrFun (acc_next m c (pt t) (by have := t.isLt; show ¬t.val % 32 = 0; omega)).2 _)
  refine (((dif_pos tl.isLt).symm.trans key).trans ?_)
  exact Finset.sum_congr rfl fun t _ => count_val _ a k

/-- The two scalars after the last point. -/
theorem scalars_last : (outsAt0 m c 31 tl.isLt).2.2.2.2.1 = k0_pay7 (F := Ideal) (outsAt0 m c 31 tl.isLt).2.2.2.2.2.2.1
    ∧ (outsAt0 m c 31 tl.isLt).2.2.2.2.2.1 = k0_pay8 (F := Ideal) (outsAt0 m c 31 tl.isLt).2.2.2.2.2.2.2.1 :=
  last_scalars m c tl (by decide) (by decide) rfl (held m c _ _)

end Cert.VQ.Ker

end
-- ==== Proof.RefVal.lean ====
/- The reference's stages at an index. -/
module

public import proofs.«01_k».proof.Proof.Dist
public import Idealize.ShloMosaic.Lib.Pointwise
public import Idealize.ShloMosaic.Lib.Routing.Ops
public import Idealize.ShloMosaic.Lib.Pipeline.ValueKit

@[expose] public section

set_option maxRecDepth 16384

noncomputable section

namespace Cert.VQ.Ref

open Idealize.ShloMosaic Cert.ReferenceIdeal Cert.ReferenceIdeal.Facts₀

/-- The reference's distances. -/
theorem dist_val (x : FVec Ideal S16384x64 .f32) (e : FVec Ideal S1024x64 .f32) (r : Fin 16384) (k : Fin 1024) :
    dist x e (ix2 r k) = D x e r k := by
  pointwise [dist]
  rw [word_two]
  rfl

/-- The reference's first least position of each row of distances. -/
theorem idx_val (x : FVec Ideal S16384x64 .f32) (e : FVec Ideal S1024x64 .f32) (r : Fin 16384) :
    idx (dist x e) (ix1 r) = BitVec.ofNat 32 (pos x e r).val := by
  rw [idx_least]
  simp only [dist_val]
  rfl

/-- A row that marks a position: one there, zero elsewhere. -/
theorem hot_val (i : IVec S16384 32) (r : Fin 16384) (p : Fin 1024) (hp : i (ix1 r) = BitVec.ofNat 32 p.val) (k : Fin 1024) :
    hot i (ix2 r k) = if k = p then 1 else 0 := by
  pointwise [hot]
  rw [hp, IntOp.cmpi]
  by_cases h : k = p
  · subst h
    rw [if_pos rfl]
    simp only [beq_self_eq_true]
    show (((BitVec.ofBool true).toNat : ℝ) : EReal) = 1
    simp
  · have h2 : ¬BitVec.ofNat 32 p.val = BitVec.ofNat 32 k.val := fun h' => h (word_inj.1 h').symm
    rw [if_neg h]
    simp only [beq_eq_false_iff_ne.2 h2]
    show (((BitVec.ofBool false).toNat : ℝ) : EReal) = 0
    simp

/-- A position below 1024 is not negative, so the index column holds it as it is. -/
theorem wrapped_val (i : IVec S16384 32) (r : Fin 16384) (p : Fin 1024) (hp : i (ix1 r) = BitVec.ofNat 32 p.val) (a : Fin 1) :
    wrapped i (ix2 r a) = BitVec.ofNat 32 p.val := by
  pointwise [wrapped]
  have h : IntOp.cmpi .slt (BitVec.ofNat 32 p.val) 0#32 = 0#1 := by
    have h2 : BitVec.slt (BitVec.ofNat 32 p.val) 0#32 = false := by
      rw [BitVec.slt, toInt_pos]
      simp
    simp only [IntOp.cmpi, h2]
    rfl
  rw [hp, h]
  rfl

/-- A position below 1024 is in range. -/
theorem inRange_val (w : IVec S16384x1 32) (r : Fin 16384) (p : Fin 1024) (hp : ∀ a, w (ix2 r a) = BitVec.ofNat 32 p.val) :
    inRange w (ix1 r) = 1#1 := by
  pointwise [inRange]
  have h1 : IntOp.cmpi .sge (BitVec.ofNat 32 p.val) 0#32 = 1#1 := by
    have h2 : BitVec.sle 0#32 (BitVec.ofNat 32 p.val) = true := by
      rw [BitVec.sle, toInt_pos]
      simp
    simp only [IntOp.cmpi, h2]
    rfl
  have h3 : IntOp.cmpi .sle (BitVec.ofNat 32 p.val) 1023#32 = 1#1 := by
    have h2 : BitVec.sle (BitVec.ofNat 32 p.val) 1023#32 = true := by
      rw [BitVec.sle, toInt_pos, show (1023#32 : BitVec 32).toInt = 1023 from rfl]
      have := p.isLt
      simp only [decide_eq_true_eq]
      omega
    simp only [IntOp.cmpi, h2]
    rfl
  simp only [hp, h1, h3]
  rw [Finset.univ_unique, Finset.fold_singleton]
  rfl

/-- The row looked up at a position is the codebook's row there. -/
theorem look_val (e : FVec Ideal S1024x64 .f32) (i : IVec S16384 32) (r : Fin 16384) (p : Fin 1024) (hp : i (ix1 r) = BitVec.ofNat 32 p.val) (l : Fin 64) :
    look e i (ix2 r l) = e (ix2 p l) := by
  pointwise [look]
  rw [inRange_val _ r p (wrapped_val i r p hp)]
  exact Routing.gather_row gather_S1024x64_S16384x1_S16384x64_1_0_n_n_0_1_164 rfl rfl rfl rfl rfl e (wrapped i) r l p
    (wrapped_val i r p hp 0) (by norm_num)

/-- The flattened input at the row of a batch and a place. -/
theorem flat_val (z : FVec Ideal S16x64x32x32 .f32) (a : Fin 16) (l : Fin 64) (h w : Fin 32)
    (hr : a.val * 1024 + (h.val * 32 + w.val) < 16384) :
    flat z (ix2 ⟨a.val * 1024 + (h.val * 32 + w.val), hr⟩ l) = z (ix4 a l h w) := by
  have key : ∀ r : Fin 16384, flat z (ix2 r l) = z (ix4 ⟨r.val / 1024, by omega⟩ l ⟨r.val / 32 % 32, by omega⟩ ⟨r.val % 32, by omega⟩) := by
    intro r
    pointwise [flat]
  rw [key]
  congr 1
  have := h.isLt
  have := w.isLt
  congr 1 <;> exact Fin.ext (by dsimp only; omega)

/-- Rows in the input's layout. -/
theorem quant_val (q : FVec Ideal S16384x64 .f32) (a : Fin 16) (l : Fin 64) (h w : Fin 32)
    (hr : a.val * 1024 + (h.val * 32 + w.val) < 16384) :
    quant q (ix4 a l h w) = q (ix2 ⟨a.val * 1024 + (h.val * 32 + w.val), hr⟩ l) := by
  pointwise [quant]
  simp only [Nat.add_assoc]

/-- The words of the loss's and the counts' scales. -/
theorem words : Ideal.ofBits .f32 0x3E800000#32 = ((1 / 4 : ℝ) : EReal) ∧ Ideal.ofBits .f32 0x49800000#32 = ((1048576 : ℝ) : EReal)
    ∧ Ideal.ofBits .f32 0x34800000#32 = ((1 / 4194304 : ℝ) : EReal) ∧ Ideal.ofBits .f32 0x46800000#32 = ((16384 : ℝ) : EReal)
    ∧ Ideal.ofBits .f32 0x38800000#32 = ((1 / 16384 : ℝ) : EReal) := by
  refine ⟨?_, ?_, ?_, ?_, ?_⟩ <;> simp [Ideal.ofBits, Ideal.ieee] <;> rw [← EReal.coe_mul] <;> norm_num

/-- The sum over the input's layout is the sum over the rows. -/
theorem sum_layout (f : FVec Ideal S16x64x32x32 .f32) (g : Fin 16384 → Fin 64 → EReal)
    (h : ∀ (a : Fin 16) (l : Fin 64) (h w : Fin 32) (hr : a.val * 1024 + (h.val * 32 + w.val) < 16384),
      f (ix4 a l h w) = g ⟨a.val * 1024 + (h.val * 32 + w.val), hr⟩ l) :
    ∑ i, f i = ∑ r, ∑ l, g r l := by
  rw [sum_idx4 (n0 := 16) (n1 := 64) (n2 := 32) (n3 := 32) f, Finset.sum_comm, Finset.sum_comm (s := (Finset.univ : Finset (Fin 16384)))]
  refine Finset.sum_congr rfl fun l _ => ?_
  rw [← Fin.sum_mul_add_fin 16 1024 fun r => g r l]
  refine Finset.sum_congr rfl fun a _ => ?_
  refine Fin.sum_mul_add_congr (L := 1024) (S := 32) (n := 32) (f := fun k : Fin 1024 => g ⟨a.val * 1024 + k.val, _⟩ l) fun y x hl => ?_
  exact h a l y x _

/-- The reference's loss over the rows, with the kernel's scale. -/
theorem loss_val (z : FVec Ideal S16x64x32x32 .f32) (q : FVec Ideal S16384x64 .f32) (j : S_.Idx) :
    loss z (quant q) j = Ideal.ofBits .f32 0x34800000#32
      * ∑ r, ∑ l, (q (ix2 r l) - flat z (ix2 r l)) * (q (ix2 r l) - flat z (ix2 r l)) := by
  pointwise [loss]
  obtain ⟨w1, w2, w3, -, -⟩ := words
  have hs : Ideal.hostReduceAdd reducesTo_S16x64x32x32_S_d0_1_2_3 (mulf (subf (quant q) z) (subf (quant q) z)) 0 j
      = ∑ r, ∑ l, (q (ix2 r l) - flat z (ix2 r l)) * (q (ix2 r l) - flat z (ix2 r l)) := by
    unfold Ideal.hostReduceAdd
    rw [zero_add, Finset.filter_true_of_mem fun i _ => funext fun a => a.elim0]
    refine sum_layout _ _ fun a l h w hr => ?_
    rw [flat_val z a l h w hr, ← quant_val q a l h w hr]
    rfl
  rw [hs, w1, w2, w3, Ideal.div_coe (by norm_num), mul_comm, mul_assoc, ← EReal.coe_mul, mul_comm]
  norm_num

/-- The reference's perplexity of counts, with the kernel's scale. -/
theorem perp_val (h : FVec Ideal S16384x1024 .f32) (j : S_.Idx) :
    perp (freq h) j = entropyExp fun k => ∑ r, h (ix2 r k) := by
  have hf : ∀ k : Fin 1024, freq h (ix1 k) = (∑ r, h (ix2 r k)) * Ideal.ofBits .f32 0x38800000#32 := by
    intro k
    pointwise [freq]
    obtain ⟨-, -, -, w1, w2⟩ := words
    rw [w1, w2, Ideal.div_coe (by norm_num)]
  pointwise [perp]
  simp only [hf]
  rw [entropyExp, zero_sub]

end Cert.VQ.Ref

end
-- ==== Proof.Arrays.lean ====
/- What the six arrays hold after the launch, in the reference's own stages over the flattened input and the codebook. -/
module

public import proofs.«01_k».proof.Proof.Held
public import proofs.«01_k».proof.Proof.RefVal

@[expose] public section

set_option maxRecDepth 16384

noncomputable section

namespace Cert.VQ.Ker

open Idealize.ShloMosaic Idealize.ShloMosaic.TcCoe Idealize.SL.Sem Cert.KernelIdeal Cert.KernelIdeal.Gen

variable (m : (ℓ : Loc nD τ sig) → Buf (Elt Ideal) ℓ) (c : Dev nD)

/-- Row `r` of point `t` is row `512 t + r` of the whole. -/
abbrev rowOf (t : Fin 32) (r : Fin 512) : Fin 16384 := ⟨t.val * 512 + r.val, by have := t.isLt; have := r.isLt; omega⟩

/-- A point as a number below 32. -/
abbrev nt (t : Fin cfg0.N) : Fin 32 := ⟨t.val, lt_of_lt_of_eq t.isLt N_0⟩

/-- A point's block holds its rows of the flattened input. -/
theorem row_val (t : Fin cfg0.N) (r : Fin 512) (d : Fin 64) : zB m c t (ix2 r d) = zA m c (ix2 (rowOf (nt t) r) d) := by
  blk_point [iblk, place t]

/-- So its distances are those of the rows. -/
theorem D_row (t : Fin cfg0.N) (r : Fin 512) (k : Fin 1024) : D (zB m c t) (eA m c) r k = D (zA m c) (eA m c) (rowOf (nt t) r) k := by
  unfold D
  simp only [row_val]

/-- And its least positions are theirs. -/
theorem pos_row (t : Fin cfg0.N) (r : Fin 512) : pos (zB m c t) (eA m c) r = pos (zA m c) (eA m c) (rowOf (nt t) r) := by
  unfold pos
  exact congrArg least (funext fun k => D_row m c t r k)

/-- The reference's distances, indices and looked-up rows over the kernel's arrays. -/
abbrev dR : FVec Ideal S16384x1024 .f32 := Ref.dist (zA m c) (eA m c)
/-- The reference's indices over them. -/
abbrev iR : IVec S16384 32 := Ref.idx (dR m c)
/-- The reference's marking rows over them. -/
abbrev hR : FVec Ideal S16384x1024 .f32 := Ref.hot (iR m c)
/-- The reference's looked-up rows over them. -/
abbrev qR : FVec Ideal S16384x64 .f32 := Ref.look (eA m c) (iR m c)

/-- A point's distances are the reference's. -/
theorem dist_row (t : Fin cfg0.N) (r : Fin 512) (k : Fin 1024) : distB m c t (ix2 r k) = dR m c (ix2 (rowOf (nt t) r) k) := by
  refine (dist_val _ _ _ _).trans ((D_row m c t r k).trans ?_)
  exact (Ref.dist_val _ _ _ _).symm

/-- A point's positions are the reference's. -/
theorem idx_row (t : Fin cfg0.N) (a b : Fin 1) (r : Fin 512) : idxB m c t (ix3 a b r) = iR m c (ix1 (rowOf (nt t) r)) := by
  refine (idx_val _ _ _ _ _).trans ?_
  rw [pos_row]
  exact (Ref.idx_val _ _ _).symm

/-- A point's marking rows are the reference's. -/
theorem hot_row (t : Fin cfg0.N) (r : Fin 512) (k : Fin 1024) : hotB m c t (ix2 r k) = hR m c (ix2 (rowOf (nt t) r) k) := by
  refine (hot_val _ _ _ _).trans ?_
  rw [pos_row]
  exact (Ref.hot_val _ _ _ (Ref.idx_val _ _ _) _).symm

/-- A point's codebook rows are the reference's. -/
theorem zq_row (t : Fin cfg0.N) (r : Fin 512) (l : Fin 64) : zqB m c t (ix2 r l) = qR m c (ix2 (rowOf (nt t) r) l) := by
  refine (zq_val _ _ _ _).trans ?_
  rw [pos_row]
  exact (Ref.look_val _ _ _ _ (Ref.idx_val _ _ _) _).symm

/-- A point's squared differences are the reference's. -/
theorem sq_row (t : Fin cfg0.N) (a : Fin 1) (r : Fin 512) (l : Fin 64) : sqB m c t (ix3 a r l)
    = (qR m c (ix2 (rowOf (nt t) r) l) - zA m c (ix2 (rowOf (nt t) r) l))
      * (qR m c (ix2 (rowOf (nt t) r) l) - zA m c (ix2 (rowOf (nt t) r) l)) := by
  refine (sq_val _ _ _ _ _).trans ?_
  rw [← zq_row, ← row_val]
  have h := zq_val (zB m c t) (eA m c) r l
  rw [← h]

/-- The distances array. -/
theorem arr_dist : (dats m 0 c).arrAt 2 cfg0.N = dR m c := by
  refine (dats m 0 c).arrAt_eq_of_covers 2 _ (by decide +kernel) fun t _ y => ?_
  blk_simp
  rw [after0_2, (blocks m c t).1]
  idx_vars y
  rw [dist_row]
  generalize dR m c = X
  blk_point [place t]

/-- The positions as 32 rows of 512. -/
def stack (i : IVec S16384 32) : IVec S32x1x512 32 := fun j => i (ix1 (rowOf (j 0) (j 2)))

/-- The stack at an index. -/
theorem stack_val (i : IVec S16384 32) (t : Fin 32) (b : Fin 1) (r : Fin 512) : stack i (ix3 t b r) = i (ix1 (rowOf t r)) := rfl

/-- Blocks that hold the stack's rows make the positions array the stack. -/
theorem arr_stack (X : IVec S32x1x512 32)
    (h : ∀ (t : Fin cfg0.N) (a b : Fin 1) (r : Fin 512), idxB m c t (ix3 a b r) = X (ix3 (nt t) 0 r)) :
    (dats m 0 c).arrAt 3 cfg0.N = X := by
  refine (dats m 0 c).arrAt_eq_of_covers 3 _ (by decide +kernel) fun t _ y => ?_
  blk_simp
  rw [after0_3, (blocks m c t).2.1]
  idx_vars y
  rw [h]
  clear h
  blk_point [place t]

/-- The positions array, as 32 rows of 512. -/
theorem arr_idx : (dats m 0 c).arrAt 3 cfg0.N = stack (iR m c) :=
  arr_stack m c _ fun t a b r => (idx_row m c t a b r).trans (stack_val _ _ _ _).symm

/-- The marking rows' array. -/
theorem arr_hot : (dats m 0 c).arrAt 4 cfg0.N = hR m c := by
  refine (dats m 0 c).arrAt_eq_of_covers 4 _ (by decide +kernel) fun t _ y => ?_
  blk_simp
  rw [after0_4, (blocks m c t).2.2.1]
  idx_vars y
  rw [hot_row]
  generalize hR m c = X
  blk_point [place t]

/-- The looked-up rows' array. -/
theorem arr_zq : (dats m 0 c).arrAt 5 cfg0.N = qR m c := by
  refine (dats m 0 c).arrAt_eq_of_covers 5 _ (by decide +kernel) fun t _ y => ?_
  blk_simp
  rw [after0_5, (blocks m c t).2.2.2]
  idx_vars y
  rw [zq_row]
  generalize qR m c = X
  blk_point [place t]

/-- The rows of the points are all the rows. -/
theorem sum_rows (f : Fin 32 → Fin 512 → EReal) (g : Fin 16384 → EReal) (h : ∀ t r, f t r = g (rowOf t r)) :
    ∑ t, ∑ r, f t r = ∑ r, g r :=
  Fin.sum_mul_add_congr (S := 32) (n := 512) fun t r _ => h t r

/-- The loss. -/
theorem arr_loss : (dats m 0 c).arrAt 6 cfg0.N = (fun _ => Ideal.ofBits .f32 0x34800000#32
      * ∑ r, ∑ l, (qR m c (ix2 r l) - zA m c (ix2 r l)) * (qR m c (ix2 r l) - zA m c (ix2 r l)) : FVec Ideal S1x1 .f32) := by
  refine (dats m 0 c).arrAt_eq_of_after_last 6 tl (by decide +kernel) _ fun j => ?_
  blk_simp
  rw [after0_6]
  idx_vars j
  refine (congrFun (scalars_last m c).1 _).trans ((loss_val _ _ _).trans ?_)
  rw [acc_last]
  refine congrArg _ (sum_rows _ _ fun t r => ?_)
  exact Finset.sum_congr rfl fun l _ => sq_row m c (pt t) 0 r l

/-- The perplexity. -/
theorem arr_perp : (dats m 0 c).arrAt 7 cfg0.N = (fun _ => entropyExp fun k => ∑ r, hR m c (ix2 r k) : FVec Ideal S1x1 .f32) := by
  refine (dats m 0 c).arrAt_eq_of_after_last 7 tl (by decide +kernel) _ fun j => ?_
  blk_simp
  rw [after0_7]
  idx_vars j
  refine (congrFun (scalars_last m c).2 _).trans ((perp_val _ _ _).trans ?_)
  refine congrArg entropyExp (funext fun k => (cnt_last m c 0 k).trans ?_)
  exact sum_rows _ _ fun t r => hot_row m c (pt t) r k

end Cert.VQ.Ker

end
-- ==== Proof.KerRun.lean ====
/- The kernel's run: its six results in the reference's stages of its own two arguments. -/
module

public import proofs.«01_k».proof.Proof.Arrays
public import Idealize.ShloMosaic.Lib.Claim

@[expose] public section

set_option maxRecDepth 16384

noncomputable section

namespace Cert.VQ.Ker

open Idealize.ShloMosaic Idealize.ShloMosaic.TcCoe Idealize.SL.Sem Cert.KernelIdeal Cert.KernelIdeal.Gen

variable (m : (ℓ : Loc nD τ sig) → Buf (Elt Ideal) ℓ) (c : Dev nD)

/-- The input. -/
abbrev zIn : FVec Ideal S16x64x32x32 .f32 := m ((c : Thread nD τ).loc main_arg0)

/-- The kernel flattens its input as the reference does. -/
theorem flat_in : zA m c = Ref.flat (zIn m c) := by
  show V m c main_v1 = _
  entry_read
  rfl

/-- The positions' stack, flattened, is the positions. -/
theorem unstack (i : IVec S16384 32) (h : S32x1x512.ShapeCasts S16384) : shapeCast S16384 (stack i) h = i := by
  funext j
  idx_vars j
  pointwise
  rw [stack_val]
  exact congrArg i (congrArg ix1 (Fin.ext (by dsimp only; omega)))

/-- The host's lines after the launch, over whatever the arrays hold. -/
theorem tail_v3 (W : Valuation τ sig (Elt Ideal)) : StableHlo.after (hostOps1 (F := Ideal)) W (Proc.devRef .tc main_v3)
    = shapeCast S16384 (W (Proc.devRef .tc main_v2_1) : IVec S32x1x512 32) shapeCasts_S32x1x512_S16384 := by
  simp only [hostOps1]
  after_results_simp
  all_goals rfl

/-- The first result's lines. -/
theorem tail_v5 (W : Valuation τ sig (Elt Ideal)) : StableHlo.after (hostOps1 (F := Ideal)) W (Proc.devRef .tc main_v5)
    = Ref.quant (W (Proc.devRef .tc main_v2_3)) := by
  simp only [hostOps1]
  after_results_simp
  all_goals rfl

/-- The loss's line. -/
theorem tail_v6 (W : Valuation τ sig (Elt Ideal)) : StableHlo.after (hostOps1 (F := Ideal)) W (Proc.devRef .tc main_v6)
    = shapeCast S_ (W (Proc.devRef .tc main_v2_4) : FVec Ideal S1x1 .f32) shapeCasts_S1x1_S_ := by
  simp only [hostOps1]
  after_results_simp
  all_goals rfl

/-- The perplexity's line. -/
theorem tail_v7 (W : Valuation τ sig (Elt Ideal)) : StableHlo.after (hostOps1 (F := Ideal)) W (Proc.devRef .tc main_v7)
    = shapeCast S_ (W (Proc.devRef .tc main_v2_5) : FVec Ideal S1x1 .f32) shapeCasts_S1x1_S_ := by
  simp only [hostOps1]
  after_results_simp
  all_goals rfl

/-- What the buffers hold when the launch ends. -/
abbrev exit : Valuation τ sig (Elt Ideal) := Pipeline.withArrays (cfgs 0).spec c (V0 m c) fun w => (dats m 0 c).arrAt w (cfgs 0).N

/-- Each window's array is then what the launch left in it. -/
theorem exit_arr (w : Fin 8) : exit m c (Proc.devRef .tc (Pipeline.arrRef (cfgs 0).spec w)) = (dats m 0 c).arrAt w (cfgs 0).N :=
  Pipeline.withArrays_arr _ launch0.win.arr_inj c _ _ w

/-- The positions' result. -/
theorem res_idx : Pipeline.afterTail₀ cfgs (dats m) 0 (V0 m) [hostOps1] c main_v3 = iR m c := by
  refine (tail_v3 (exit m c)).trans ?_
  refine (congrArg (fun X : IVec S32x1x512 32 => shapeCast S16384 X shapeCasts_S32x1x512_S16384) ((exit_arr m c 3).trans (arr_idx m c))).trans ?_
  exact unstack _ _

/-- The first result. -/
theorem res_quant : Pipeline.afterTail₀ cfgs (dats m) 0 (V0 m) [hostOps1] c main_v5 = Ref.quant (qR m c) := by
  refine (tail_v5 (exit m c)).trans ?_
  exact congrArg (fun X : FVec Ideal S16384x64 .f32 => Ref.quant X) ((exit_arr m c 5).trans (arr_zq m c))

/-- The loss. -/
theorem res_loss : Pipeline.afterTail₀ cfgs (dats m) 0 (V0 m) [hostOps1] c main_v6 = Ref.loss (zIn m c) (Ref.quant (qR m c)) := by
  refine (tail_v6 (exit m c)).trans ?_
  refine (congrArg (fun X : FVec Ideal S1x1 .f32 => shapeCast S_ X shapeCasts_S1x1_S_) ((exit_arr m c 6).trans (arr_loss m c))).trans ?_
  funext j
  rw [Ref.loss_val, ← flat_in]
  rfl

/-- The perplexity. -/
theorem res_perp : Pipeline.afterTail₀ cfgs (dats m) 0 (V0 m) [hostOps1] c main_v7 = Ref.perp (Ref.freq (hR m c)) := by
  refine (tail_v7 (exit m c)).trans ?_
  refine (congrArg (fun X : FVec Ideal S1x1 .f32 => shapeCast S_ X shapeCasts_S1x1_S_) ((exit_arr m c 7).trans (arr_perp m c))).trans ?_
  funext j
  rw [Ref.perp_val]
  rfl

/-- The kernel runs, its six results are these, and the arguments stay. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v5) = Ref.quant (qR m c)
      ∧ r.2.mem ((c.tc : Thread nD τ).loc main_v6) = Ref.loss (zIn m c) (Ref.quant (qR m c))
      ∧ r.2.mem ((c.tc : Thread nD τ).loc main_v7) = Ref.perp (Ref.freq (hR m c))
      ∧ r.2.mem ((c.tc : Thread nD τ).loc main_v2_2) = hR m c
      ∧ r.2.mem ((c.tc : Thread nD τ).loc main_v3) = iR m c
      ∧ r.2.mem ((c.tc : Thread nD τ).loc main_v2_0) = dR m c
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  run_from Cert.KernelIdeal.Gen.unchanged m g & Cert.KernelIdeal.Gen.run_main m g
  · exact res_quant m c
  · exact res_loss m c
  · exact res_perp m c
  · exact arr_hot m c
  · exact res_idx m c
  · exact arr_dist m c

end Cert.VQ.Ker

end
-- ==== Proof.RefOps.lean ====
/- The reference program as nine runs of operations, one per stage, and what each stage leaves in its result: the
   stage's definition in `RefTerms`, at whatever contents it starts from. Each stage leaves the earlier results alone. -/
module

public import proofs.«01_k».proof.Proof.RefTerms
public import Idealize.ShloMosaic.Lib.StableHlo.Run

@[expose] public section

set_option maxRecDepth 16384
set_option maxHeartbeats 4000000

noncomputable section

namespace Cert.VQ.Ref

open Idealize.ShloMosaic Idealize.ShloMosaic.TcCoe Idealize.ShloMosaic.StableHlo Idealize.SL.Sem Cert.ReferenceIdeal Cert.ReferenceIdeal.Facts₀

variable {F : FTy → Type} [FloatOps F]

/-- The operations of the distances. -/
abbrev opsDist : List (HloOp τ sig (Elt F)) :=
  [ unary main_arg0 main_v0 ((transpose S16x32x32x64 [0, 2, 3, 1] · transposes_S16x64x32x32_S16x32x32x64_0_2_3_1) : (⟨S16x64x32x32, .f32⟩ : BufTy).Contents (Elt F) → (⟨S16x32x32x64, .f32⟩ : BufTy).Contents (Elt F)),
    reshape main_v0 main_v1 (rfl : (.f32 : EltTy) = .f32) shapeCasts_S16x32x32x64_S16384x64,
    binary main_v1 main_v1 main_v2 (mulf : (⟨S16384x64, .f32⟩ : BufTy).Contents (Elt F) → (⟨S16384x64, .f32⟩ : BufTy).Contents (Elt F) → (⟨S16384x64, .f32⟩ : BufTy).Contents (Elt F)),
    nullary main_cst (constant S_ .f32 0x00000000#32),
    binary main_v2 main_cst main_v3 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v3 main_v4 (broadcastInDim S16384x1 ![0] bcast_S16384_S16384x1_0 : (⟨S16384, .f32⟩ : BufTy).Contents (Elt F) → (⟨S16384x1, .f32⟩ : BufTy).Contents (Elt F)),
    binary main_arg1 main_arg1 main_v5 (mulf : (⟨S1024x64, .f32⟩ : BufTy).Contents (Elt F) → (⟨S1024x64, .f32⟩ : BufTy).Contents (Elt F) → (⟨S1024x64, .f32⟩ : BufTy).Contents (Elt F)),
    nullary main_cst_0 (constant S_ .f32 0x00000000#32),
    binary main_v5 main_cst_0 main_v6 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v6 main_v7 (broadcastInDim S1x1024 ![1] bcast_S1024_S1x1024_1 : (⟨S1024, .f32⟩ : BufTy).Contents (Elt F) → (⟨S1x1024, .f32⟩ : BufTy).Contents (Elt F)),
    unary main_v4 main_v8 (broadcastInDim S16384x1024 ![0, 1] bcast_S16384x1_S16384x1024_0_1 : (⟨S16384x1, .f32⟩ : BufTy).Contents (Elt F) → (⟨S16384x1024, .f32⟩ : BufTy).Contents (Elt F)),
    unary main_v7 main_v9 (broadcastInDim S16384x1024 ![0, 1] bcast_S1x1024_S16384x1024_0_1 : (⟨S1x1024, .f32⟩ : BufTy).Contents (Elt F) → (⟨S16384x1024, .f32⟩ : BufTy).Contents (Elt F)),
    binary main_v8 main_v9 main_v10 (addf : (⟨S16384x1024, .f32⟩ : BufTy).Contents (Elt F) → (⟨S16384x1024, .f32⟩ : BufTy).Contents (Elt F) → (⟨S16384x1024, .f32⟩ : BufTy).Contents (Elt F)),
    unary main_arg1 main_v11 ((transpose S64x1024 [1, 0] · transposes_S1024x64_S64x1024_1_0) : (⟨S1024x64, .f32⟩ : BufTy).Contents (Elt F) → (⟨S64x1024, .f32⟩ : BufTy).Contents (Elt F)),
    binary main_v1 main_v11 main_v12 ((fun l r => Host.dotGeneral dot_S16384x64_S64x1024_S16384x1024_1_0_0_1_n_n none l r) : (⟨S16384x64, .f32⟩ : BufTy).Contents (Elt F) → (⟨S64x1024, .f32⟩ : BufTy).Contents (Elt F) → (⟨S16384x1024, .f32⟩ : BufTy).Contents (Elt F)),
    nullary main_cst_1 (constant S_ .f32 0x40000000#32),
    unary main_cst_1 main_v13 (broadcastInDim S16384x1024 ![] bcast_S_S16384x1024 : (⟨S_, .f32⟩ : BufTy).Contents (Elt F) → (⟨S16384x1024, .f32⟩ : BufTy).Contents (Elt F)),
    binary main_v13 main_v12 main_v14 (mulf : (⟨S16384x1024, .f32⟩ : BufTy).Contents (Elt F) → (⟨S16384x1024, .f32⟩ : BufTy).Contents (Elt F) → (⟨S16384x1024, .f32⟩ : BufTy).Contents (Elt F)),
    binary main_v10 main_v14 main_v15 (subf : (⟨S16384x1024, .f32⟩ : BufTy).Contents (Elt F) → (⟨S16384x1024, .f32⟩ : BufTy).Contents (Elt F) → (⟨S16384x1024, .f32⟩ : BufTy).Contents (Elt F)) ]

/-- The operations of the least position of each row. -/
abbrev opsIdx : List (HloOp τ sig (Elt F)) :=
  [ TRef.nullary (TRef.of (T := ⟨S16384x1024, .i32⟩) main_call0_v0) (iotaInDim S16384x1024 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S16384x1024, .f32⟩) main_v15) (TRef.of (T := ⟨S16384x1024, .i32⟩) main_call0_v0) (TRef.of (T := ⟨S_, .f32⟩) main_call0_cst) (TRef.of (T := ⟨S_, .i32⟩) main_call0_c) (TRef.of (T := ⟨S16384, .f32⟩) main_call0_v1_0) (fun (x : FVec F S16384x1024 .f32) (y : IVec S16384x1024 32) (u : FVec F S_ .f32) (v : IVec S_ 32) (j : S16384.Idx) => (Host.argReduce reducer_argmin_f32_i32 x y u v reducesTo_S16384x1024_S16384_d1 h_S_ j).1),
    TRef.quaternary (TRef.of (T := ⟨S16384x1024, .f32⟩) main_v15) (TRef.of (T := ⟨S16384x1024, .i32⟩) main_call0_v0) (TRef.of (T := ⟨S_, .f32⟩) main_call0_cst) (TRef.of (T := ⟨S_, .i32⟩) main_call0_c) (TRef.of (T := ⟨S16384, .i32⟩) main_v16) (fun (x : FVec F S16384x1024 .f32) (y : IVec S16384x1024 32) (u : FVec F S_ .f32) (v : IVec S_ 32) (j : S16384.Idx) => (Host.argReduce reducer_argmin_f32_i32 x y u v reducesTo_S16384x1024_S16384_d1 h_S_ j).2) ]

/-- The operations of the rows that mark an index. -/
abbrev opsHot : List (HloOp τ sig (Elt F)) :=
  [ TRef.unary (TRef.of (T := ⟨S16384, .i32⟩) main_v16) (TRef.of (T := ⟨S16384x1, .i32⟩) main_call1_v0) (broadcastInDim S16384x1 ![0] bcast_S16384_S16384x1_0),
    TRef.nullary (TRef.of (T := ⟨S1x1024, .i32⟩) main_call1_v1) (iotaInDim S1x1024 32 1),
    TRef.unary (TRef.of (T := ⟨S16384x1, .i32⟩) main_call1_v0) (TRef.of (T := ⟨S16384x1024, .i32⟩) main_call1_v2) (broadcastInDim S16384x1024 ![0, 1] bcast_S16384x1_S16384x1024_0_1),
    TRef.unary (TRef.of (T := ⟨S1x1024, .i32⟩) main_call1_v1) (TRef.of (T := ⟨S16384x1024, .i32⟩) main_call1_v3) (broadcastInDim S16384x1024 ![0, 1] bcast_S1x1024_S16384x1024_0_1),
    TRef.binary (TRef.of (T := ⟨S16384x1024, .i32⟩) main_call1_v2) (TRef.of (T := ⟨S16384x1024, .i32⟩) main_call1_v3) (TRef.of (T := ⟨S16384x1024, .i1⟩) main_call1_v4) (cmpi .eq),
    TRef.unary (TRef.of (T := ⟨S16384x1024, .i1⟩) main_call1_v4) (TRef.of (T := ⟨S16384x1024, .f32⟩) main_v17) (uitofp .f32) ]

/-- The operations of the codebook row of each index. -/
abbrev opsLook : List (HloOp τ sig (Elt F)) :=
  [ TRef.nullary (TRef.of (T := ⟨S_, .i32⟩) main_call2_c) (constantI S_ 32 0#32),
    TRef.unary (TRef.of (T := ⟨S_, .i32⟩) main_call2_c) (TRef.of (T := ⟨S16384, .i32⟩) main_call2_v0) (broadcastInDim S16384 ![] bcast_S_S16384),
    TRef.binary (TRef.of (T := ⟨S16384, .i32⟩) main_v16) (TRef.of (T := ⟨S16384, .i32⟩) main_call2_v0) (TRef.of (T := ⟨S16384, .i1⟩) main_call2_v1) (cmpi .slt),
    TRef.nullary (TRef.of (T := ⟨S_, .i32⟩) main_call2_c_0) (constantI S_ 32 1024#32),
    TRef.unary (TRef.of (T := ⟨S_, .i32⟩) main_call2_c_0) (TRef.of (T := ⟨S16384, .i32⟩) main_call2_v2) (broadcastInDim S16384 ![] bcast_S_S16384),
    TRef.binary (TRef.of (T := ⟨S16384, .i32⟩) main_v16) (TRef.of (T := ⟨S16384, .i32⟩) main_call2_v2) (TRef.of (T := ⟨S16384, .i32⟩) main_call2_v3) addi,
    TRef.ternary (TRef.of (T := ⟨S16384, .i1⟩) main_call2_v1) (TRef.of (T := ⟨S16384, .i32⟩) main_call2_v3) (TRef.of (T := ⟨S16384, .i32⟩) main_v16) (TRef.of (T := ⟨S16384, .i32⟩) main_call2_v4) select,
    TRef.unary (TRef.of (T := ⟨S16384, .i32⟩) main_call2_v4) (TRef.of (T := ⟨S16384x1, .i32⟩) main_call2_v5) (broadcastInDim S16384x1 ![0] bcast_S16384_S16384x1_0),
    TRef.nullary (TRef.of (T := ⟨S1, .i32⟩) main_call2_c_1) (constantI S1 32 1023#32),
    TRef.nullary (TRef.of (T := ⟨S_, .i32⟩) main_call2_c_2) (constantI S_ 32 0#32),
    TRef.unary (TRef.of (T := ⟨S_, .i32⟩) main_call2_c_2) (TRef.of (T := ⟨S16384x1, .i32⟩) main_call2_v6) (broadcastInDim S16384x1 ![] bcast_S_S16384x1),
    TRef.binary (TRef.of (T := ⟨S16384x1, .i32⟩) main_call2_v5) (TRef.of (T := ⟨S16384x1, .i32⟩) main_call2_v6) (TRef.of (T := ⟨S16384x1, .i1⟩) main_call2_v7) (cmpi .sge),
    TRef.unary (TRef.of (T := ⟨S1, .i32⟩) main_call2_c_1) (TRef.of (T := ⟨S1x1, .i32⟩) main_call2_v8) (broadcastInDim S1x1 ![1] bcast_S1_S1x1_1),
    TRef.unary (TRef.of (T := ⟨S1x1, .i32⟩) main_call2_v8) (TRef.of (T := ⟨S16384x1, .i32⟩) main_call2_v9) (broadcastInDim S16384x1 ![0, 1] bcast_S1x1_S16384x1_0_1),
    TRef.binary (TRef.of (T := ⟨S16384x1, .i32⟩) main_call2_v5) (TRef.of (T := ⟨S16384x1, .i32⟩) main_call2_v9) (TRef.of (T := ⟨S16384x1, .i1⟩) main_call2_v10) (cmpi .sle),
    TRef.binary (TRef.of (T := ⟨S16384x1, .i1⟩) main_call2_v7) (TRef.of (T := ⟨S16384x1, .i1⟩) main_call2_v10) (TRef.of (T := ⟨S16384x1, .i1⟩) main_call2_v11) andi,
    TRef.nullary (TRef.of (T := ⟨S_, .i1⟩) main_call2_c_3) (constantI S_ 1 1#1),
    TRef.binary (TRef.of (T := ⟨S16384x1, .i1⟩) main_call2_v11) (TRef.of (T := ⟨S_, .i1⟩) main_call2_c_3) (TRef.of (T := ⟨S16384, .i1⟩) main_call2_v12) (fun x v => Host.reduce IntOp.andi x v reducesTo_S16384x1_S16384_d1 h_S_),
    TRef.binary (TRef.of (T := ⟨S1024x64, .f32⟩) main_arg1) (TRef.of (T := ⟨S16384x1, .i32⟩) main_call2_v5) (TRef.of (T := ⟨S16384x64, .f32⟩) main_call2_v13) (fun x i => Host.gather gather_S1024x64_S16384x1_S16384x64_1_0_n_n_0_1_164 x i),
    TRef.unary (TRef.of (T := ⟨S16384, .i1⟩) main_call2_v12) (TRef.of (T := ⟨S16384x64, .i1⟩) main_call2_v14) (broadcastInDim S16384x64 ![0] bcast_S16384_S16384x64_0),
    TRef.nullary (TRef.of (T := ⟨S_, .f32⟩) main_call2_cst) (constant S_ .f32 0x7FC00000#32),
    TRef.unary (TRef.of (T := ⟨S_, .f32⟩) main_call2_cst) (TRef.of (T := ⟨S16384x64, .f32⟩) main_call2_v15) (broadcastInDim S16384x64 ![] bcast_S_S16384x64),
    TRef.ternary (TRef.of (T := ⟨S16384x64, .i1⟩) main_call2_v14) (TRef.of (T := ⟨S16384x64, .f32⟩) main_call2_v13) (TRef.of (T := ⟨S16384x64, .f32⟩) main_call2_v15) (TRef.of (T := ⟨S16384x64, .f32⟩) main_v18) select ]

/-- The operations of the quantized input in the input's layout. -/
abbrev opsQuant : List (HloOp τ sig (Elt F)) :=
  [ reshape main_v18 main_v19 (rfl : (.f32 : EltTy) = .f32) shapeCasts_S16384x64_S16x32x32x64,
    unary main_v19 main_v20 ((transpose S16x64x32x32 [0, 3, 1, 2] · transposes_S16x32x32x64_S16x64x32x32_0_3_1_2) : (⟨S16x32x32x64, .f32⟩ : BufTy).Contents (Elt F) → (⟨S16x64x32x32, .f32⟩ : BufTy).Contents (Elt F)) ]

/-- The operations of the loss. -/
abbrev opsLoss : List (HloOp τ sig (Elt F)) :=
  [ binary main_v20 main_arg0 main_v21 (subf : (⟨S16x64x32x32, .f32⟩ : BufTy).Contents (Elt F) → (⟨S16x64x32x32, .f32⟩ : BufTy).Contents (Elt F) → (⟨S16x64x32x32, .f32⟩ : BufTy).Contents (Elt F)),
    binary main_v21 main_v21 main_v22 (mulf : (⟨S16x64x32x32, .f32⟩ : BufTy).Contents (Elt F) → (⟨S16x64x32x32, .f32⟩ : BufTy).Contents (Elt F) → (⟨S16x64x32x32, .f32⟩ : BufTy).Contents (Elt F)),
    nullary main_cst_2 (constant S_ .f32 0x00000000#32),
    binary main_v22 main_cst_2 main_v23 ((fun x v => Host.reduceAdd x v reducesTo_S16x64x32x32_S_d0_1_2_3 h_S_) : (⟨S16x64x32x32, .f32⟩ : BufTy).Contents (Elt F) → (⟨S_, .f32⟩ : BufTy).Contents (Elt F) → (⟨S_, .f32⟩ : BufTy).Contents (Elt F)),
    nullary main_cst_3 (constant S_ .f32 0x49800000#32),
    binary main_v23 main_cst_3 main_v24 (Host.divf : (⟨S_, .f32⟩ : BufTy).Contents (Elt F) → (⟨S_, .f32⟩ : BufTy).Contents (Elt F) → (⟨S_, .f32⟩ : BufTy).Contents (Elt F)),
    nullary main_cst_4 (constant S_ .f32 0x3E800000#32),
    binary main_cst_4 main_v24 main_v25 (mulf : (⟨S_, .f32⟩ : BufTy).Contents (Elt F) → (⟨S_, .f32⟩ : BufTy).Contents (Elt F) → (⟨S_, .f32⟩ : BufTy).Contents (Elt F)) ]

/-- The operations of the usage fractions. -/
abbrev opsFreq : List (HloOp τ sig (Elt F)) :=
  [ nullary main_cst_5 (constant S_ .f32 0x00000000#32),
    binary main_v17 main_cst_5 main_v26 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    nullary main_cst_6 (constant S_ .f32 0x46800000#32),
    unary main_cst_6 main_v27 (broadcastInDim S1024 ![] bcast_S_S1024 : (⟨S_, .f32⟩ : BufTy).Contents (Elt F) → (⟨S1024, .f32⟩ : BufTy).Contents (Elt F)),
    binary main_v26 main_v27 main_v28 (Host.divf : (⟨S1024, .f32⟩ : BufTy).Contents (Elt F) → (⟨S1024, .f32⟩ : BufTy).Contents (Elt F) → (⟨S1024, .f32⟩ : BufTy).Contents (Elt F)) ]

/-- The operations of the perplexity. -/
abbrev opsPerp : List (HloOp τ sig (Elt F)) :=
  [ nullary main_cst_7 (constant S_ .f32 0x2EDBE6FF#32),
    unary main_cst_7 main_v29 (broadcastInDim S1024 ![] bcast_S_S1024 : (⟨S_, .f32⟩ : BufTy).Contents (Elt F) → (⟨S1024, .f32⟩ : BufTy).Contents (Elt F)),
    binary main_v28 main_v29 main_v30 (addf : (⟨S1024, .f32⟩ : BufTy).Contents (Elt F) → (⟨S1024, .f32⟩ : BufTy).Contents (Elt F) → (⟨S1024, .f32⟩ : BufTy).Contents (Elt F)),
    unary main_v30 main_v31 (Host.log : (⟨S1024, .f32⟩ : BufTy).Contents (Elt F) → (⟨S1024, .f32⟩ : BufTy).Contents (Elt F)),
    binary main_v28 main_v31 main_v32 (mulf : (⟨S1024, .f32⟩ : BufTy).Contents (Elt F) → (⟨S1024, .f32⟩ : BufTy).Contents (Elt F) → (⟨S1024, .f32⟩ : BufTy).Contents (Elt F)),
    nullary main_cst_8 (constant S_ .f32 0x00000000#32),
    binary main_v32 main_cst_8 main_v33 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    unary main_v33 main_v34 (Host.negf : (⟨S_, .f32⟩ : BufTy).Contents (Elt F) → (⟨S_, .f32⟩ : BufTy).Contents (Elt F)),
    unary main_v34 main_v35 (Host.exp : (⟨S_, .f32⟩ : BufTy).Contents (Elt F) → (⟨S_, .f32⟩ : BufTy).Contents (Elt F)) ]

/-- The operations of the straight-through result. -/
abbrev opsSt : List (HloOp τ sig (Elt F)) :=
  [ binary main_v20 main_arg0 main_v36 (subf : (⟨S16x64x32x32, .f32⟩ : BufTy).Contents (Elt F) → (⟨S16x64x32x32, .f32⟩ : BufTy).Contents (Elt F) → (⟨S16x64x32x32, .f32⟩ : BufTy).Contents (Elt F)),
    binary main_arg0 main_v36 main_v37 (addf : (⟨S16x64x32x32, .f32⟩ : BufTy).Contents (Elt F) → (⟨S16x64x32x32, .f32⟩ : BufTy).Contents (Elt F) → (⟨S16x64x32x32, .f32⟩ : BufTy).Contents (Elt F)) ]

/-- They touch the program's tensors alone. -/
theorem opsDist_sub : (opsDist (F := F)).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub ..⟩

/-- They touch the program's tensors alone. -/
theorem opsIdx_sub : (opsIdx (F := F)).Forall fun op => op.bufs ⊆ tcRefs τ sig :=
  ⟨nullary_bufs_sub .., nullary_bufs_sub .., nullary_bufs_sub .., quaternary_bufs_sub .., quaternary_bufs_sub ..⟩

/-- They touch the program's tensors alone. -/
theorem opsHot_sub : (opsHot (F := F)).Forall fun op => op.bufs ⊆ tcRefs τ sig :=
  ⟨unary_bufs_sub .., nullary_bufs_sub .., unary_bufs_sub .., unary_bufs_sub .., binary_bufs_sub .., unary_bufs_sub ..⟩

/-- They touch the program's tensors alone. -/
theorem opsLook_sub : (opsLook (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- They touch the program's tensors alone. -/
theorem opsQuant_sub : (opsQuant (F := F)).Forall fun op => op.bufs ⊆ tcRefs τ sig :=
  ⟨reshape_bufs_sub .., unary_bufs_sub ..⟩

/-- They touch the program's tensors alone. -/
theorem opsLoss_sub : (opsLoss (F := F)).Forall fun op => op.bufs ⊆ tcRefs τ sig :=
  ⟨binary_bufs_sub .., binary_bufs_sub .., nullary_bufs_sub .., binary_bufs_sub .., nullary_bufs_sub .., binary_bufs_sub .., nullary_bufs_sub .., binary_bufs_sub ..⟩

/-- They touch the program's tensors alone. -/
theorem opsFreq_sub : (opsFreq (F := F)).Forall fun op => op.bufs ⊆ tcRefs τ sig :=
  ⟨nullary_bufs_sub .., binary_bufs_sub .., nullary_bufs_sub .., unary_bufs_sub .., binary_bufs_sub ..⟩

/-- They touch the program's tensors alone. -/
theorem opsPerp_sub : (opsPerp (F := F)).Forall fun op => op.bufs ⊆ tcRefs τ sig :=
  ⟨nullary_bufs_sub .., unary_bufs_sub .., binary_bufs_sub .., unary_bufs_sub .., binary_bufs_sub .., nullary_bufs_sub .., binary_bufs_sub .., unary_bufs_sub .., unary_bufs_sub ..⟩

/-- They touch the program's tensors alone. -/
theorem opsSt_sub : (opsSt (F := F)).Forall fun op => op.bufs ⊆ tcRefs τ sig :=
  ⟨binary_bufs_sub .., binary_bufs_sub ..⟩

/-- The contents after them. -/
def pastDist (V : Valuation τ sig (Elt Ideal)) : Valuation τ sig (Elt Ideal) := after opsDist V

/-- The contents after them. -/
def pastIdx (V : Valuation τ sig (Elt Ideal)) : Valuation τ sig (Elt Ideal) := after opsIdx V

/-- The contents after them. -/
def pastHot (V : Valuation τ sig (Elt Ideal)) : Valuation τ sig (Elt Ideal) := after opsHot V

/-- The contents after them. -/
def pastLook (V : Valuation τ sig (Elt Ideal)) : Valuation τ sig (Elt Ideal) := after opsLook V

/-- The contents after them. -/
def pastQuant (V : Valuation τ sig (Elt Ideal)) : Valuation τ sig (Elt Ideal) := after opsQuant V

/-- The contents after them. -/
def pastLoss (V : Valuation τ sig (Elt Ideal)) : Valuation τ sig (Elt Ideal) := after opsLoss V

/-- The contents after them. -/
def pastFreq (V : Valuation τ sig (Elt Ideal)) : Valuation τ sig (Elt Ideal) := after opsFreq V

/-- The contents after them. -/
def pastPerp (V : Valuation τ sig (Elt Ideal)) : Valuation τ sig (Elt Ideal) := after opsPerp V

/-- The contents after them. -/
def pastSt (V : Valuation τ sig (Elt Ideal)) : Valuation τ sig (Elt Ideal) := after opsSt V

/-- They leave the distances in `main_v15`. -/
theorem opsDist_value (V : Valuation τ sig (Elt Ideal)) :
    pastDist V (Proc.devRef .tc main_v15) = dist (flat (V (Proc.devRef .tc main_arg0))) (V (Proc.devRef .tc main_arg1)) := by
  show after opsDist V _ = _
  simp only [opsDist, TRef.binary, TRef.nullary, TRef.ternary, TRef.unary, TRef.quaternary, TRef.toBuf, TRef.ofBuf, cast_eq]
  after_results_simp
  all_goals rfl

/-- They leave the least positions in `main_v16`. -/
theorem opsIdx_value (V : Valuation τ sig (Elt Ideal)) :
    pastIdx V (Proc.devRef .tc main_v16) = idx (V (Proc.devRef .tc main_v15)) := by
  show after opsIdx V _ = _
  simp only [opsIdx, TRef.binary, TRef.nullary, TRef.ternary, TRef.unary, TRef.quaternary, TRef.toBuf, TRef.ofBuf, cast_eq]
  after_results_simp
  all_goals rfl

/-- They leave the marking rows in `main_v17`. -/
theorem opsHot_value (V : Valuation τ sig (Elt Ideal)) :
    pastHot V (Proc.devRef .tc main_v17) = hot (V (Proc.devRef .tc main_v16)) := by
  show after opsHot V _ = _
  simp only [opsHot, TRef.binary, TRef.nullary, TRef.ternary, TRef.unary, TRef.quaternary, TRef.toBuf, TRef.ofBuf, cast_eq]
  after_results_simp
  all_goals rfl

/-- They leave the codebook rows in `main_v18`. -/
theorem opsLook_value (V : Valuation τ sig (Elt Ideal)) :
    pastLook V (Proc.devRef .tc main_v18) = look (V (Proc.devRef .tc main_arg1)) (V (Proc.devRef .tc main_v16)) := by
  show after opsLook V _ = _
  simp only [opsLook, TRef.binary, TRef.nullary, TRef.ternary, TRef.unary, TRef.quaternary, TRef.toBuf, TRef.ofBuf, cast_eq]
  after_results_simp
  all_goals rfl

/-- They leave the quantized input in `main_v20`. -/
theorem opsQuant_value (V : Valuation τ sig (Elt Ideal)) :
    pastQuant V (Proc.devRef .tc main_v20) = quant (V (Proc.devRef .tc main_v18)) := by
  show after opsQuant V _ = _
  simp only [opsQuant, TRef.binary, TRef.nullary, TRef.ternary, TRef.unary, TRef.quaternary, TRef.toBuf, TRef.ofBuf, cast_eq]
  after_results_simp
  all_goals rfl

/-- They leave the loss in `main_v25`. -/
theorem opsLoss_value (V : Valuation τ sig (Elt Ideal)) :
    pastLoss V (Proc.devRef .tc main_v25) = loss (V (Proc.devRef .tc main_arg0)) (V (Proc.devRef .tc main_v20)) := by
  show after opsLoss V _ = _
  simp only [opsLoss, TRef.binary, TRef.nullary, TRef.ternary, TRef.unary, TRef.quaternary, TRef.toBuf, TRef.ofBuf, cast_eq]
  after_results_simp
  all_goals rfl

/-- They leave the usage fractions in `main_v28`. -/
theorem opsFreq_value (V : Valuation τ sig (Elt Ideal)) :
    pastFreq V (Proc.devRef .tc main_v28) = freq (V (Proc.devRef .tc main_v17)) := by
  show after opsFreq V _ = _
  simp only [opsFreq, TRef.binary, TRef.nullary, TRef.ternary, TRef.unary, TRef.quaternary, TRef.toBuf, TRef.ofBuf, cast_eq]
  after_results_simp
  all_goals rfl

/-- They leave the perplexity in `main_v35`. -/
theorem opsPerp_value (V : Valuation τ sig (Elt Ideal)) :
    pastPerp V (Proc.devRef .tc main_v35) = perp (V (Proc.devRef .tc main_v28)) := by
  show after opsPerp V _ = _
  simp only [opsPerp, TRef.binary, TRef.nullary, TRef.ternary, TRef.unary, TRef.quaternary, TRef.toBuf, TRef.ofBuf, cast_eq]
  after_results_simp
  all_goals rfl

/-- They leave the straight-through result in `main_v37`. -/
theorem opsSt_value (V : Valuation τ sig (Elt Ideal)) :
    pastSt V (Proc.devRef .tc main_v37) = st (V (Proc.devRef .tc main_arg0)) (V (Proc.devRef .tc main_v20)) := by
  show after opsSt V _ = _
  simp only [opsSt, TRef.binary, TRef.nullary, TRef.ternary, TRef.unary, TRef.quaternary, TRef.toBuf, TRef.ofBuf, cast_eq]
  after_results_simp
  all_goals rfl

/-- They leave `main_arg0` as it was. -/
theorem opsDist_main_arg0 (V : Valuation τ sig (Elt Ideal)) : pastDist V (Proc.devRef .tc main_arg0) = V (Proc.devRef .tc main_arg0) := by
  show after opsDist V _ = _
  simp only [opsDist, TRef.binary, TRef.nullary, TRef.ternary, TRef.unary, TRef.quaternary, TRef.toBuf, TRef.ofBuf, cast_eq]
  after_results_simp

/-- They leave `main_arg1` as it was. -/
theorem opsDist_main_arg1 (V : Valuation τ sig (Elt Ideal)) : pastDist V (Proc.devRef .tc main_arg1) = V (Proc.devRef .tc main_arg1) := by
  show after opsDist V _ = _
  simp only [opsDist, TRef.binary, TRef.nullary, TRef.ternary, TRef.unary, TRef.quaternary, TRef.toBuf, TRef.ofBuf, cast_eq]
  after_results_simp

/-- They leave `main_arg0` as it was. -/
theorem opsIdx_main_arg0 (V : Valuation τ sig (Elt Ideal)) : pastIdx V (Proc.devRef .tc main_arg0) = V (Proc.devRef .tc main_arg0) := by
  show after opsIdx V _ = _
  simp only [opsIdx, TRef.binary, TRef.nullary, TRef.ternary, TRef.unary, TRef.quaternary, TRef.toBuf, TRef.ofBuf, cast_eq]
  after_results_simp

/-- They leave `main_arg1` as it was. -/
theorem opsIdx_main_arg1 (V : Valuation τ sig (Elt Ideal)) : pastIdx V (Proc.devRef .tc main_arg1) = V (Proc.devRef .tc main_arg1) := by
  show after opsIdx V _ = _
  simp only [opsIdx, TRef.binary, TRef.nullary, TRef.ternary, TRef.unary, TRef.quaternary, TRef.toBuf, TRef.ofBuf, cast_eq]
  after_results_simp

/-- They leave `main_v15` as it was. -/
theorem opsIdx_main_v15 (V : Valuation τ sig (Elt Ideal)) : pastIdx V (Proc.devRef .tc main_v15) = V (Proc.devRef .tc main_v15) := by
  show after opsIdx V _ = _
  simp only [opsIdx, TRef.binary, TRef.nullary, TRef.ternary, TRef.unary, TRef.quaternary, TRef.toBuf, TRef.ofBuf, cast_eq]
  after_results_simp

/-- They leave `main_arg0` as it was. -/
theorem opsHot_main_arg0 (V : Valuation τ sig (Elt Ideal)) : pastHot V (Proc.devRef .tc main_arg0) = V (Proc.devRef .tc main_arg0) := by
  show after opsHot V _ = _
  simp only [opsHot, TRef.binary, TRef.nullary, TRef.ternary, TRef.unary, TRef.quaternary, TRef.toBuf, TRef.ofBuf, cast_eq]
  after_results_simp

/-- They leave `main_arg1` as it was. -/
theorem opsHot_main_arg1 (V : Valuation τ sig (Elt Ideal)) : pastHot V (Proc.devRef .tc main_arg1) = V (Proc.devRef .tc main_arg1) := by
  show after opsHot V _ = _
  simp only [opsHot, TRef.binary, TRef.nullary, TRef.ternary, TRef.unary, TRef.quaternary, TRef.toBuf, TRef.ofBuf, cast_eq]
  after_results_simp

/-- They leave `main_v15` as it was. -/
theorem opsHot_main_v15 (V : Valuation τ sig (Elt Ideal)) : pastHot V (Proc.devRef .tc main_v15) = V (Proc.devRef .tc main_v15) := by
  show after opsHot V _ = _
  simp only [opsHot, TRef.binary, TRef.nullary, TRef.ternary, TRef.unary, TRef.quaternary, TRef.toBuf, TRef.ofBuf, cast_eq]
  after_results_simp

/-- They leave `main_v16` as it was. -/
theorem opsHot_main_v16 (V : Valuation τ sig (Elt Ideal)) : pastHot V (Proc.devRef .tc main_v16) = V (Proc.devRef .tc main_v16) := by
  show after opsHot V _ = _
  simp only [opsHot, TRef.binary, TRef.nullary, TRef.ternary, TRef.unary, TRef.quaternary, TRef.toBuf, TRef.ofBuf, cast_eq]
  after_results_simp

/-- They leave `main_arg0` as it was. -/
theorem opsLook_main_arg0 (V : Valuation τ sig (Elt Ideal)) : pastLook V (Proc.devRef .tc main_arg0) = V (Proc.devRef .tc main_arg0) := by
  show after opsLook V _ = _
  simp only [opsLook, TRef.binary, TRef.nullary, TRef.ternary, TRef.unary, TRef.quaternary, TRef.toBuf, TRef.ofBuf, cast_eq]
  after_results_simp

/-- They leave `main_arg1` as it was. -/
theorem opsLook_main_arg1 (V : Valuation τ sig (Elt Ideal)) : pastLook V (Proc.devRef .tc main_arg1) = V (Proc.devRef .tc main_arg1) := by
  show after opsLook V _ = _
  simp only [opsLook, TRef.binary, TRef.nullary, TRef.ternary, TRef.unary, TRef.quaternary, TRef.toBuf, TRef.ofBuf, cast_eq]
  after_results_simp

/-- They leave `main_v15` as it was. -/
theorem opsLook_main_v15 (V : Valuation τ sig (Elt Ideal)) : pastLook V (Proc.devRef .tc main_v15) = V (Proc.devRef .tc main_v15) := by
  show after opsLook V _ = _
  simp only [opsLook, TRef.binary, TRef.nullary, TRef.ternary, TRef.unary, TRef.quaternary, TRef.toBuf, TRef.ofBuf, cast_eq]
  after_results_simp

/-- They leave `main_v16` as it was. -/
theorem opsLook_main_v16 (V : Valuation τ sig (Elt Ideal)) : pastLook V (Proc.devRef .tc main_v16) = V (Proc.devRef .tc main_v16) := by
  show after opsLook V _ = _
  simp only [opsLook, TRef.binary, TRef.nullary, TRef.ternary, TRef.unary, TRef.quaternary, TRef.toBuf, TRef.ofBuf, cast_eq]
  after_results_simp

/-- They leave `main_v17` as it was. -/
theorem opsLook_main_v17 (V : Valuation τ sig (Elt Ideal)) : pastLook V (Proc.devRef .tc main_v17) = V (Proc.devRef .tc main_v17) := by
  show after opsLook V _ = _
  simp only [opsLook, TRef.binary, TRef.nullary, TRef.ternary, TRef.unary, TRef.quaternary, TRef.toBuf, TRef.ofBuf, cast_eq]
  after_results_simp

/-- They leave `main_arg0` as it was. -/
theorem opsQuant_main_arg0 (V : Valuation τ sig (Elt Ideal)) : pastQuant V (Proc.devRef .tc main_arg0) = V (Proc.devRef .tc main_arg0) := by
  show after opsQuant V _ = _
  simp only [opsQuant, TRef.binary, TRef.nullary, TRef.ternary, TRef.unary, TRef.quaternary, TRef.toBuf, TRef.ofBuf, cast_eq]
  after_results_simp

/-- They leave `main_arg1` as it was. -/
theorem opsQuant_main_arg1 (V : Valuation τ sig (Elt Ideal)) : pastQuant V (Proc.devRef .tc main_arg1) = V (Proc.devRef .tc main_arg1) := by
  show after opsQuant V _ = _
  simp only [opsQuant, TRef.binary, TRef.nullary, TRef.ternary, TRef.unary, TRef.quaternary, TRef.toBuf, TRef.ofBuf, cast_eq]
  after_results_simp

/-- They leave `main_v15` as it was. -/
theorem opsQuant_main_v15 (V : Valuation τ sig (Elt Ideal)) : pastQuant V (Proc.devRef .tc main_v15) = V (Proc.devRef .tc main_v15) := by
  show after opsQuant V _ = _
  simp only [opsQuant, TRef.binary, TRef.nullary, TRef.ternary, TRef.unary, TRef.quaternary, TRef.toBuf, TRef.ofBuf, cast_eq]
  after_results_simp

/-- They leave `main_v16` as it was. -/
theorem opsQuant_main_v16 (V : Valuation τ sig (Elt Ideal)) : pastQuant V (Proc.devRef .tc main_v16) = V (Proc.devRef .tc main_v16) := by
  show after opsQuant V _ = _
  simp only [opsQuant, TRef.binary, TRef.nullary, TRef.ternary, TRef.unary, TRef.quaternary, TRef.toBuf, TRef.ofBuf, cast_eq]
  after_results_simp

/-- They leave `main_v17` as it was. -/
theorem opsQuant_main_v17 (V : Valuation τ sig (Elt Ideal)) : pastQuant V (Proc.devRef .tc main_v17) = V (Proc.devRef .tc main_v17) := by
  show after opsQuant V _ = _
  simp only [opsQuant, TRef.binary, TRef.nullary, TRef.ternary, TRef.unary, TRef.quaternary, TRef.toBuf, TRef.ofBuf, cast_eq]
  after_results_simp

/-- They leave `main_v18` as it was. -/
theorem opsQuant_main_v18 (V : Valuation τ sig (Elt Ideal)) : pastQuant V (Proc.devRef .tc main_v18) = V (Proc.devRef .tc main_v18) := by
  show after opsQuant V _ = _
  simp only [opsQuant, TRef.binary, TRef.nullary, TRef.ternary, TRef.unary, TRef.quaternary, TRef.toBuf, TRef.ofBuf, cast_eq]
  after_results_simp

/-- They leave `main_arg0` as it was. -/
theorem opsLoss_main_arg0 (V : Valuation τ sig (Elt Ideal)) : pastLoss V (Proc.devRef .tc main_arg0) = V (Proc.devRef .tc main_arg0) := by
  show after opsLoss V _ = _
  simp only [opsLoss, TRef.binary, TRef.nullary, TRef.ternary, TRef.unary, TRef.quaternary, TRef.toBuf, TRef.ofBuf, cast_eq]
  after_results_simp

/-- They leave `main_arg1` as it was. -/
theorem opsLoss_main_arg1 (V : Valuation τ sig (Elt Ideal)) : pastLoss V (Proc.devRef .tc main_arg1) = V (Proc.devRef .tc main_arg1) := by
  show after opsLoss V _ = _
  simp only [opsLoss, TRef.binary, TRef.nullary, TRef.ternary, TRef.unary, TRef.quaternary, TRef.toBuf, TRef.ofBuf, cast_eq]
  after_results_simp

/-- They leave `main_v15` as it was. -/
theorem opsLoss_main_v15 (V : Valuation τ sig (Elt Ideal)) : pastLoss V (Proc.devRef .tc main_v15) = V (Proc.devRef .tc main_v15) := by
  show after opsLoss V _ = _
  simp only [opsLoss, TRef.binary, TRef.nullary, TRef.ternary, TRef.unary, TRef.quaternary, TRef.toBuf, TRef.ofBuf, cast_eq]
  after_results_simp

/-- They leave `main_v16` as it was. -/
theorem opsLoss_main_v16 (V : Valuation τ sig (Elt Ideal)) : pastLoss V (Proc.devRef .tc main_v16) = V (Proc.devRef .tc main_v16) := by
  show after opsLoss V _ = _
  simp only [opsLoss, TRef.binary, TRef.nullary, TRef.ternary, TRef.unary, TRef.quaternary, TRef.toBuf, TRef.ofBuf, cast_eq]
  after_results_simp

/-- They leave `main_v17` as it was. -/
theorem opsLoss_main_v17 (V : Valuation τ sig (Elt Ideal)) : pastLoss V (Proc.devRef .tc main_v17) = V (Proc.devRef .tc main_v17) := by
  show after opsLoss V _ = _
  simp only [opsLoss, TRef.binary, TRef.nullary, TRef.ternary, TRef.unary, TRef.quaternary, TRef.toBuf, TRef.ofBuf, cast_eq]
  after_results_simp

/-- They leave `main_v20` as it was. -/
theorem opsLoss_main_v20 (V : Valuation τ sig (Elt Ideal)) : pastLoss V (Proc.devRef .tc main_v20) = V (Proc.devRef .tc main_v20) := by
  show after opsLoss V _ = _
  simp only [opsLoss, TRef.binary, TRef.nullary, TRef.ternary, TRef.unary, TRef.quaternary, TRef.toBuf, TRef.ofBuf, cast_eq]
  after_results_simp

/-- They leave `main_arg0` as it was. -/
theorem opsFreq_main_arg0 (V : Valuation τ sig (Elt Ideal)) : pastFreq V (Proc.devRef .tc main_arg0) = V (Proc.devRef .tc main_arg0) := by
  show after opsFreq V _ = _
  simp only [opsFreq, TRef.binary, TRef.nullary, TRef.ternary, TRef.unary, TRef.quaternary, TRef.toBuf, TRef.ofBuf, cast_eq]
  after_results_simp

/-- They leave `main_arg1` as it was. -/
theorem opsFreq_main_arg1 (V : Valuation τ sig (Elt Ideal)) : pastFreq V (Proc.devRef .tc main_arg1) = V (Proc.devRef .tc main_arg1) := by
  show after opsFreq V _ = _
  simp only [opsFreq, TRef.binary, TRef.nullary, TRef.ternary, TRef.unary, TRef.quaternary, TRef.toBuf, TRef.ofBuf, cast_eq]
  after_results_simp

/-- They leave `main_v15` as it was. -/
theorem opsFreq_main_v15 (V : Valuation τ sig (Elt Ideal)) : pastFreq V (Proc.devRef .tc main_v15) = V (Proc.devRef .tc main_v15) := by
  show after opsFreq V _ = _
  simp only [opsFreq, TRef.binary, TRef.nullary, TRef.ternary, TRef.unary, TRef.quaternary, TRef.toBuf, TRef.ofBuf, cast_eq]
  after_results_simp

/-- They leave `main_v16` as it was. -/
theorem opsFreq_main_v16 (V : Valuation τ sig (Elt Ideal)) : pastFreq V (Proc.devRef .tc main_v16) = V (Proc.devRef .tc main_v16) := by
  show after opsFreq V _ = _
  simp only [opsFreq, TRef.binary, TRef.nullary, TRef.ternary, TRef.unary, TRef.quaternary, TRef.toBuf, TRef.ofBuf, cast_eq]
  after_results_simp

/-- They leave `main_v17` as it was. -/
theorem opsFreq_main_v17 (V : Valuation τ sig (Elt Ideal)) : pastFreq V (Proc.devRef .tc main_v17) = V (Proc.devRef .tc main_v17) := by
  show after opsFreq V _ = _
  simp only [opsFreq, TRef.binary, TRef.nullary, TRef.ternary, TRef.unary, TRef.quaternary, TRef.toBuf, TRef.ofBuf, cast_eq]
  after_results_simp

/-- They leave `main_v20` as it was. -/
theorem opsFreq_main_v20 (V : Valuation τ sig (Elt Ideal)) : pastFreq V (Proc.devRef .tc main_v20) = V (Proc.devRef .tc main_v20) := by
  show after opsFreq V _ = _
  simp only [opsFreq, TRef.binary, TRef.nullary, TRef.ternary, TRef.unary, TRef.quaternary, TRef.toBuf, TRef.ofBuf, cast_eq]
  after_results_simp

/-- They leave `main_v25` as it was. -/
theorem opsFreq_main_v25 (V : Valuation τ sig (Elt Ideal)) : pastFreq V (Proc.devRef .tc main_v25) = V (Proc.devRef .tc main_v25) := by
  show after opsFreq V _ = _
  simp only [opsFreq, TRef.binary, TRef.nullary, TRef.ternary, TRef.unary, TRef.quaternary, TRef.toBuf, TRef.ofBuf, cast_eq]
  after_results_simp

/-- They leave `main_arg0` as it was. -/
theorem opsPerp_main_arg0 (V : Valuation τ sig (Elt Ideal)) : pastPerp V (Proc.devRef .tc main_arg0) = V (Proc.devRef .tc main_arg0) := by
  show after opsPerp V _ = _
  simp only [opsPerp, TRef.binary, TRef.nullary, TRef.ternary, TRef.unary, TRef.quaternary, TRef.toBuf, TRef.ofBuf, cast_eq]
  after_results_simp

/-- They leave `main_arg1` as it was. -/
theorem opsPerp_main_arg1 (V : Valuation τ sig (Elt Ideal)) : pastPerp V (Proc.devRef .tc main_arg1) = V (Proc.devRef .tc main_arg1) := by
  show after opsPerp V _ = _
  simp only [opsPerp, TRef.binary, TRef.nullary, TRef.ternary, TRef.unary, TRef.quaternary, TRef.toBuf, TRef.ofBuf, cast_eq]
  after_results_simp

/-- They leave `main_v15` as it was. -/
theorem opsPerp_main_v15 (V : Valuation τ sig (Elt Ideal)) : pastPerp V (Proc.devRef .tc main_v15) = V (Proc.devRef .tc main_v15) := by
  show after opsPerp V _ = _
  simp only [opsPerp, TRef.binary, TRef.nullary, TRef.ternary, TRef.unary, TRef.quaternary, TRef.toBuf, TRef.ofBuf, cast_eq]
  after_results_simp

/-- They leave `main_v16` as it was. -/
theorem opsPerp_main_v16 (V : Valuation τ sig (Elt Ideal)) : pastPerp V (Proc.devRef .tc main_v16) = V (Proc.devRef .tc main_v16) := by
  show after opsPerp V _ = _
  simp only [opsPerp, TRef.binary, TRef.nullary, TRef.ternary, TRef.unary, TRef.quaternary, TRef.toBuf, TRef.ofBuf, cast_eq]
  after_results_simp

/-- They leave `main_v17` as it was. -/
theorem opsPerp_main_v17 (V : Valuation τ sig (Elt Ideal)) : pastPerp V (Proc.devRef .tc main_v17) = V (Proc.devRef .tc main_v17) := by
  show after opsPerp V _ = _
  simp only [opsPerp, TRef.binary, TRef.nullary, TRef.ternary, TRef.unary, TRef.quaternary, TRef.toBuf, TRef.ofBuf, cast_eq]
  after_results_simp

/-- They leave `main_v20` as it was. -/
theorem opsPerp_main_v20 (V : Valuation τ sig (Elt Ideal)) : pastPerp V (Proc.devRef .tc main_v20) = V (Proc.devRef .tc main_v20) := by
  show after opsPerp V _ = _
  simp only [opsPerp, TRef.binary, TRef.nullary, TRef.ternary, TRef.unary, TRef.quaternary, TRef.toBuf, TRef.ofBuf, cast_eq]
  after_results_simp

/-- They leave `main_v25` as it was. -/
theorem opsPerp_main_v25 (V : Valuation τ sig (Elt Ideal)) : pastPerp V (Proc.devRef .tc main_v25) = V (Proc.devRef .tc main_v25) := by
  show after opsPerp V _ = _
  simp only [opsPerp, TRef.binary, TRef.nullary, TRef.ternary, TRef.unary, TRef.quaternary, TRef.toBuf, TRef.ofBuf, cast_eq]
  after_results_simp

/-- They leave `main_v28` as it was. -/
theorem opsPerp_main_v28 (V : Valuation τ sig (Elt Ideal)) : pastPerp V (Proc.devRef .tc main_v28) = V (Proc.devRef .tc main_v28) := by
  show after opsPerp V _ = _
  simp only [opsPerp, TRef.binary, TRef.nullary, TRef.ternary, TRef.unary, TRef.quaternary, TRef.toBuf, TRef.ofBuf, cast_eq]
  after_results_simp

/-- They leave `main_arg0` as it was. -/
theorem opsSt_main_arg0 (V : Valuation τ sig (Elt Ideal)) : pastSt V (Proc.devRef .tc main_arg0) = V (Proc.devRef .tc main_arg0) := by
  show after opsSt V _ = _
  simp only [opsSt, TRef.binary, TRef.nullary, TRef.ternary, TRef.unary, TRef.quaternary, TRef.toBuf, TRef.ofBuf, cast_eq]
  after_results_simp

/-- They leave `main_arg1` as it was. -/
theorem opsSt_main_arg1 (V : Valuation τ sig (Elt Ideal)) : pastSt V (Proc.devRef .tc main_arg1) = V (Proc.devRef .tc main_arg1) := by
  show after opsSt V _ = _
  simp only [opsSt, TRef.binary, TRef.nullary, TRef.ternary, TRef.unary, TRef.quaternary, TRef.toBuf, TRef.ofBuf, cast_eq]
  after_results_simp

/-- They leave `main_v15` as it was. -/
theorem opsSt_main_v15 (V : Valuation τ sig (Elt Ideal)) : pastSt V (Proc.devRef .tc main_v15) = V (Proc.devRef .tc main_v15) := by
  show after opsSt V _ = _
  simp only [opsSt, TRef.binary, TRef.nullary, TRef.ternary, TRef.unary, TRef.quaternary, TRef.toBuf, TRef.ofBuf, cast_eq]
  after_results_simp

/-- They leave `main_v16` as it was. -/
theorem opsSt_main_v16 (V : Valuation τ sig (Elt Ideal)) : pastSt V (Proc.devRef .tc main_v16) = V (Proc.devRef .tc main_v16) := by
  show after opsSt V _ = _
  simp only [opsSt, TRef.binary, TRef.nullary, TRef.ternary, TRef.unary, TRef.quaternary, TRef.toBuf, TRef.ofBuf, cast_eq]
  after_results_simp

/-- They leave `main_v17` as it was. -/
theorem opsSt_main_v17 (V : Valuation τ sig (Elt Ideal)) : pastSt V (Proc.devRef .tc main_v17) = V (Proc.devRef .tc main_v17) := by
  show after opsSt V _ = _
  simp only [opsSt, TRef.binary, TRef.nullary, TRef.ternary, TRef.unary, TRef.quaternary, TRef.toBuf, TRef.ofBuf, cast_eq]
  after_results_simp

/-- They leave `main_v20` as it was. -/
theorem opsSt_main_v20 (V : Valuation τ sig (Elt Ideal)) : pastSt V (Proc.devRef .tc main_v20) = V (Proc.devRef .tc main_v20) := by
  show after opsSt V _ = _
  simp only [opsSt, TRef.binary, TRef.nullary, TRef.ternary, TRef.unary, TRef.quaternary, TRef.toBuf, TRef.ofBuf, cast_eq]
  after_results_simp

/-- They leave `main_v25` as it was. -/
theorem opsSt_main_v25 (V : Valuation τ sig (Elt Ideal)) : pastSt V (Proc.devRef .tc main_v25) = V (Proc.devRef .tc main_v25) := by
  show after opsSt V _ = _
  simp only [opsSt, TRef.binary, TRef.nullary, TRef.ternary, TRef.unary, TRef.quaternary, TRef.toBuf, TRef.ofBuf, cast_eq]
  after_results_simp

/-- They leave `main_v35` as it was. -/
theorem opsSt_main_v35 (V : Valuation τ sig (Elt Ideal)) : pastSt V (Proc.devRef .tc main_v35) = V (Proc.devRef .tc main_v35) := by
  show after opsSt V _ = _
  simp only [opsSt, TRef.binary, TRef.nullary, TRef.ternary, TRef.unary, TRef.quaternary, TRef.toBuf, TRef.ofBuf, cast_eq]
  after_results_simp

end Cert.VQ.Ref

end
-- ==== Proof.RefRun.lean ====
/- The reference program's run: it ends with its six results holding the terms of `RefTerms`, its arguments unchanged. -/
module

public import proofs.«01_k».proof.Proof.RefOps
public import Idealize.ShloMosaic.Lib.Claim

@[expose] public section

set_option maxRecDepth 16384

noncomputable section

namespace Cert.VQ.Ref

open Idealize.ShloMosaic Idealize.ShloMosaic.TcCoe Idealize.ShloMosaic.StableHlo Idealize.SL.Sem Cert.ReferenceIdeal

variable (m : (ℓ : Loc nD τ sig) → Buf (Elt Ideal) ℓ)

/-- The first argument as an array. -/
abbrev zarg (c : Dev nD) : FVec Ideal S16x64x32x32 .f32 := m ((c.tc : Thread nD τ).loc main_arg0)

/-- The codebook as an array. -/
abbrev earg (c : Dev nD) : FVec Ideal S1024x64 .f32 := m ((c.tc : Thread nD τ).loc main_arg1)

/-- The reference's distances of the arguments. -/
abbrev distA (c : Dev nD) : FVec Ideal S16384x1024 .f32 := dist (flat (zarg m c)) (earg m c)

/-- The reference's least positions of the arguments. -/
abbrev idxA (c : Dev nD) : IVec S16384 32 := idx (distA m c)

/-- The reference's quantized input. -/
abbrev quantA (c : Dev nD) : FVec Ideal S16x64x32x32 .f32 := quant (look (earg m c) (idxA m c))

/-- All the operations, stage after stage. -/
abbrev ops : List (HloOp τ sig (Elt Ideal)) :=
  opsDist ++ (opsIdx ++ (opsHot ++ (opsLook ++ (opsQuant ++ (opsLoss ++ (opsFreq ++ (opsPerp ++ opsSt)))))))

set_option maxHeartbeats 4000000 in
/-- The program is those operations in order. -/
theorem main_eq (c : Dev nD) : main (F := Ideal) c = seq ops := rfl

/-- The program has no scoped tensor. -/
theorem scopedRefs_eq : (Finset.univ.filter fun b : Ref sig .tc => b.isScoped) = ∅ := by decide

/-- The program has no scoped semaphore. -/
theorem scopedSems_eq : (Finset.univ.filter fun sm : SemLoc sig => sm.isScoped .tc) = ∅ := by decide

/-- Every operation touches the program's tensors alone. -/
theorem ops_sub : ops.Forall fun op => op.bufs ⊆ tcRefs τ sig := by
  simp only [ops, List.forall_append]
  exact ⟨opsDist_sub, opsIdx_sub, opsHot_sub, opsLook_sub, opsQuant_sub, opsLoss_sub, opsFreq_sub, opsPerp_sub, opsSt_sub⟩

/-- Running one list of operations after another. -/
theorem after_two (l k : List (HloOp τ sig (Elt Ideal))) (V : Valuation τ sig (Elt Ideal)) :
    after (l ++ k) V = after k (after l V) := by
  induction l generalizing V with
  | nil => rfl
  | cons op l ih => exact ih _

/-- The contents after the whole program, stage by stage. -/
theorem after_ops (V : Valuation τ sig (Elt Ideal)) :
    after ops V = pastSt (pastPerp (pastFreq (pastLoss (pastQuant (pastLook (pastHot (pastIdx (pastDist V)))))))) := by
  simp only [ops, after_two]
  rfl

/-- The reference runs, its six results are the stage definitions of its arguments, and the arguments stay. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v37) = st (zarg m c) (quantA m c)
      ∧ r.2.mem ((c.tc : Thread nD τ).loc main_v25) = loss (zarg m c) (quantA m c)
      ∧ r.2.mem ((c.tc : Thread nD τ).loc main_v35) = perp (freq (hot (idxA m c)))
      ∧ r.2.mem ((c.tc : Thread nD τ).loc main_v17) = hot (idxA m c)
      ∧ r.2.mem ((c.tc : Thread nD τ).loc main_v16) = idxA m c
      ∧ r.2.mem ((c.tc : Thread nD τ).loc main_v15) = distA m c
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun _ h c => ?_)
    (run_seq scopedRefs_eq scopedSems_eq defs main (fun _ => ops) main_eq (fun _ => ops_sub) m g)
  refine ⟨(h c main_v37).trans ?_, (h c main_v25).trans ?_, (h c main_v35).trans ?_, (h c main_v17).trans ?_,
    (h c main_v16).trans ?_, (h c main_v15).trans ?_, (h c main_arg0).trans ?_, (h c main_arg1).trans ?_⟩
  · rw [after_ops, opsSt_value, opsPerp_main_arg0, opsFreq_main_arg0, opsLoss_main_arg0, opsQuant_main_arg0,
      opsLook_main_arg0, opsHot_main_arg0, opsIdx_main_arg0, opsDist_main_arg0, opsPerp_main_v20, opsFreq_main_v20,
      opsLoss_main_v20, opsQuant_value, opsLook_value, opsHot_main_arg1, opsIdx_main_arg1, opsDist_main_arg1,
      opsHot_main_v16, opsIdx_value, opsDist_value]
  · rw [after_ops, opsSt_main_v25, opsPerp_main_v25, opsFreq_main_v25, opsLoss_value, opsQuant_main_arg0,
      opsLook_main_arg0, opsHot_main_arg0, opsIdx_main_arg0, opsDist_main_arg0, opsQuant_value, opsLook_value,
      opsHot_main_arg1, opsIdx_main_arg1, opsDist_main_arg1, opsHot_main_v16, opsIdx_value, opsDist_value]
  · rw [after_ops, opsSt_main_v35, opsPerp_value, opsFreq_value, opsLoss_main_v17, opsQuant_main_v17,
      opsLook_main_v17, opsHot_value, opsIdx_value, opsDist_value]
  · rw [after_ops, opsSt_main_v17, opsPerp_main_v17, opsFreq_main_v17, opsLoss_main_v17, opsQuant_main_v17,
      opsLook_main_v17, opsHot_value, opsIdx_value, opsDist_value]
  · rw [after_ops, opsSt_main_v16, opsPerp_main_v16, opsFreq_main_v16, opsLoss_main_v16, opsQuant_main_v16,
      opsLook_main_v16, opsHot_main_v16, opsIdx_value, opsDist_value]
  · rw [after_ops, opsSt_main_v15, opsPerp_main_v15, opsFreq_main_v15, opsLoss_main_v15, opsQuant_main_v15,
      opsLook_main_v15, opsHot_main_v15, opsIdx_main_v15, opsDist_value]
  · rw [after_ops, opsSt_main_arg0, opsPerp_main_arg0, opsFreq_main_arg0, opsLoss_main_arg0, opsQuant_main_arg0,
      opsLook_main_arg0, opsHot_main_arg0, opsIdx_main_arg0, opsDist_main_arg0]
  · rw [after_ops, opsSt_main_arg1, opsPerp_main_arg1, opsFreq_main_arg1, opsLoss_main_arg1, opsQuant_main_arg1,
      opsLook_main_arg1, opsHot_main_arg1, opsIdx_main_arg1, opsDist_main_arg1]

end Cert.VQ.Ref

end
-- ==== Proof.Finite.lean ====
/- What the precondition gives: every entry of the input is a real number, so adding to it the difference of a second
   array and itself is that second array. -/
module

public import proofs.«01_k».proof.Proof.RefTerms
public import proofs.«01_k».proof.Pre_no_tie
public import proofs.«01_k».proof.Proof.Gen.Pre_no_tie
public import Idealize.ShloMosaic.Lib.ReduceAll
public import Idealize.ShloMosaic.Lib.Claim

@[expose] public section

noncomputable section

namespace Cert.VQ

open Idealize.ShloMosaic Cert.ReferenceIdeal

/-- The word 0x7F800000 is plus infinity. -/
theorem word_top : Ideal.ofBits .f32 0x7F800000#32 = (⊤ : EReal) := by
  simp [Ideal.ofBits, Ideal.ieee]

/-- A number whose absolute value is below plus infinity is a real. -/
theorem real_of_abs (x : EReal) (h : max x (-x) < ⊤) : ∃ a : ℝ, x = a := by
  induction x with
  | bot => simp at h
  | top => simp at h
  | coe a => exact ⟨a, rfl⟩

/-- Adding to a real the difference of any number and it gives the number. -/
theorem real_add_sub (a : ℝ) (q : EReal) : (a : EReal) + (q - a) = q := by
  induction q with
  | bot => simp
  | top => simp
  | coe b => rw [← EReal.coe_sub, ← EReal.coe_add]; congr 1; ring

/-- The precondition's first half: every entry of the input is a real. -/
theorem entries_real (z : FVec Ideal S16x64x32x32 .f32) (e : FVec Ideal S1024x64 .f32)
    (h : Cert.Pre_no_tie.fn (F := Ideal) z e = fun _ => 1#1) (i : S16x64x32x32.Idx) : ∃ a : ℝ, z i = (a : EReal) := by
  have h0 := congrFun h (fun k => k.elim0)
  have h1 := (IntOp.andi_eq_one.1 h0).1
  have : Subsingleton Cert.Pre_no_tie.S_.Idx := ⟨fun _ _ => funext fun k => k.elim0⟩
  have h2 := Host.reduce_andi_all _ _ _ _ _ h1 i
  refine real_of_abs (z i) ?_
  have h3 : BitVec.ofBool (decide ((max (z i) (-(z i)) : EReal) < Ideal.ofBits .f32 0x7F800000#32)) = 1#1 := h2
  rw [word_top] at h3
  by_contra hn
  rw [decide_eq_false hn] at h3
  exact absurd h3 (by decide)

/-- Under the precondition the straight-through result is the quantized array itself. -/
theorem st_eq (z q : FVec Ideal S16x64x32x32 .f32) (e : FVec Ideal S1024x64 .f32)
    (h : Cert.Pre_no_tie.fn (F := Ideal) z e = fun _ => 1#1) : Ref.st z q = q := by
  funext i
  obtain ⟨a, ha⟩ := entries_real z e h i
  show (z i : EReal) + ((q i : EReal) - z i) = q i
  rw [ha]
  exact real_add_sub a (q i)

end Cert.VQ

end
-- ==== Proof.lean ====
module

public import proofs.«01_k».proof.Defs
public import proofs.«01_k».proof.Proof.Gen.Kernel.Frame
public import proofs.«01_k».proof.Proof.Gen.Pre_no_tie
public import proofs.«01_k».proof.Proof.KerRun
public import proofs.«01_k».proof.Proof.RefRun
public import proofs.«01_k».proof.Proof.Finite
public import Idealize.ShloMosaic.Lib.Claim
public import Idealize.ShloMosaic.Lib.Quiescent

@[expose] public section

noncomputable section

namespace Cert.Proof

open Idealize.ShloMosaic Idealize.ShloMosaic.TcCoe Idealize.SL.Sem Cert.VQ

section results

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- From equal arguments the reference's distances are the ones the kernel's results are stated over. -/
theorem dist_meet (hz : Ref.zarg m' c = Ker.zIn m c) (he : Ref.earg m' c = Ker.eA m c) :
    Ref.distA m' c = Ker.dR m c := by
  show Ref.dist (Ref.flat (Ref.zarg m' c)) (Ref.earg m' c) = Ref.dist (Ker.zA m c) (Ker.eA m c)
  rw [hz, he, Ker.flat_in]

/-- So are the least positions. -/
theorem idx_meet (hz : Ref.zarg m' c = Ker.zIn m c) (he : Ref.earg m' c = Ker.eA m c) :
    Ref.idxA m' c = Ker.iR m c := congrArg Ref.idx (dist_meet m m' c hz he)

/-- So are the chosen codebook rows, in the input's layout. -/
theorem quant_meet (hz : Ref.zarg m' c = Ker.zIn m c) (he : Ref.earg m' c = Ker.eA m c) :
    Ref.quantA m' c = Ref.quant (Ker.qR m c) :=
  congrArg Ref.quant (congrArg₂ Ref.look he (idx_meet m m' c hz he))

end results

/-- The reference runs, leaves its arguments and ends with every counter at zero. -/
theorem reference_frame : Cert.quiescent_ReferenceIdeal (hReferenceIdeal := Cert.ReferenceIdeal.Gen.facts) := by
  intro m g _
  exact (θ_run _ _ _).mono (fun r h => ⟨fun c => (h c).2.2.2.2.2.2, sem_eq_zero_of_no_sems (by decide) r.2⟩) (Ref.run m g)

/-- From equal arguments meeting the precondition, kernel and reference run and end with the same six results. -/
theorem results : Cert.algebraic_KernelIdeal_ReferenceIdeal (hKernelIdeal := Cert.KernelIdeal.Gen.facts)
    (hReferenceIdeal := Cert.ReferenceIdeal.Gen.facts) (hPre_no_tie := Cert.Pre_no_tie.Gen.facts) := by
  intro m g m' g' hpre hargs
  refine ⟨fun c => Ref.quant (Ker.qR m c), fun c => Ref.loss (Ker.zIn m c) (Ref.quant (Ker.qR m c)),
    fun c => Ref.perp (Ref.freq (Ker.hR m c)), fun c => Ker.hR m c, fun c => Ker.iR m c, fun c => Ker.dR m c,
    Ker.run m g, (θ_run _ _ _).mono (fun r h c => ?_) (Ref.run m' g')⟩
  obtain ⟨h0, h1, h2, h3, h4, h5, h6, h7⟩ := h c
  have hz : Ref.zarg m' c = Ker.zIn m c := (hargs c).1
  have he : Ref.earg m' c = Ker.eA m c := (hargs c).2
  have hi := idx_meet m m' c hz he
  have hq := quant_meet m m' c hz he
  refine ⟨h0.trans ?_, h1.trans ?_, h2.trans ?_, h3.trans ?_, h4.trans hi, h5.trans (dist_meet m m' c hz he), h6, h7⟩
  · rw [hz, hq]
    exact st_eq (Ker.zIn m c) (Ref.quant (Ker.qR m c)) (Ker.eA m c) (hpre c)
  · rw [hz, hq]
  · exact congrArg (fun i => Ref.perp (Ref.freq (Ref.hot i))) hi
  · exact congrArg Ref.hot hi

/-- Everything stated about the two programs. -/
theorem claim : Cert.Claim := ⟨Cert.Kernel.Gen.facts, Cert.KernelIdeal.Gen.facts, Cert.ReferenceIdeal.Gen.facts, Cert.Pre_no_tie.Gen.facts,
  fun m g _ => Cert.Kernel.Gen.frame m g,
  fun m g _ => Cert.Kernel.Gen.frame m g,
  fun m g _ => Cert.KernelIdeal.Gen.frame m g,
  reference_frame,
  fun m g _ => reference_frame m g trivial,
  trivial,
  results⟩

end Cert.Proof

end
